-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceArcIdeal (m : (ℓ : Loc Cert.ReferenceArcIdeal.nD Cert.ReferenceArcIdeal.τ Cert.ReferenceArcIdeal.sig) → Buf (Elt Ideal) ℓ) : Prop :=
  True

def Pre_ReferenceArcIdeal_admissible [hPre_admissible : Cert.Pre_admissible.Facts] (m : (ℓ : Loc Cert.ReferenceArcIdeal.nD Cert.ReferenceArcIdeal.τ Cert.ReferenceArcIdeal.sig) → Buf (Elt Ideal) ℓ) : Prop :=
  ∀ c : Dev Cert.ReferenceArcIdeal.nD,
    (Cert.Pre_admissible.fn (F := Ideal) (m ((c.tc : Thread Cert.ReferenceArcIdeal.nD Cert.ReferenceArcIdeal.τ).loc Cert.ReferenceArcIdeal.main_arg0)) (m ((c.tc : Thread Cert.ReferenceArcIdeal.nD Cert.ReferenceArcIdeal.τ).loc Cert.ReferenceArcIdeal.main_arg1)) (m ((c.tc : Thread Cert.ReferenceArcIdeal.nD Cert.ReferenceArcIdeal.τ).loc Cert.ReferenceArcIdeal.main_arg2)) (m ((c.tc : Thread Cert.ReferenceArcIdeal.nD Cert.ReferenceArcIdeal.τ).loc Cert.ReferenceArcIdeal.main_arg3)) (m ((c.tc : Thread Cert.ReferenceArcIdeal.nD Cert.ReferenceArcIdeal.τ).loc Cert.ReferenceArcIdeal.main_arg4))).1 = (fun _ => 1#1)
    ∧ (Cert.Pre_admissible.fn (F := Ideal) (m ((c.tc : Thread Cert.ReferenceArcIdeal.nD Cert.ReferenceArcIdeal.τ).loc Cert.ReferenceArcIdeal.main_arg0)) (m ((c.tc : Thread Cert.ReferenceArcIdeal.nD Cert.ReferenceArcIdeal.τ).loc Cert.ReferenceArcIdeal.main_arg1)) (m ((c.tc : Thread Cert.ReferenceArcIdeal.nD Cert.ReferenceArcIdeal.τ).loc Cert.ReferenceArcIdeal.main_arg2)) (m ((c.tc : Thread Cert.ReferenceArcIdeal.nD Cert.ReferenceArcIdeal.τ).loc Cert.ReferenceArcIdeal.main_arg3)) (m ((c.tc : Thread Cert.ReferenceArcIdeal.nD Cert.ReferenceArcIdeal.τ).loc Cert.ReferenceArcIdeal.main_arg4))).2.1 = (fun _ => 1#1)
    ∧ (Cert.Pre_admissible.fn (F := Ideal) (m ((c.tc : Thread Cert.ReferenceArcIdeal.nD Cert.ReferenceArcIdeal.τ).loc Cert.ReferenceArcIdeal.main_arg0)) (m ((c.tc : Thread Cert.ReferenceArcIdeal.nD Cert.ReferenceArcIdeal.τ).loc Cert.ReferenceArcIdeal.main_arg1)) (m ((c.tc : Thread Cert.ReferenceArcIdeal.nD Cert.ReferenceArcIdeal.τ).loc Cert.ReferenceArcIdeal.main_arg2)) (m ((c.tc : Thread Cert.ReferenceArcIdeal.nD Cert.ReferenceArcIdeal.τ).loc Cert.ReferenceArcIdeal.main_arg3)) (m ((c.tc : Thread Cert.ReferenceArcIdeal.nD Cert.ReferenceArcIdeal.τ).loc Cert.ReferenceArcIdeal.main_arg4))).2.2.1 = (fun _ => 1#1)
    ∧ (Cert.Pre_admissible.fn (F := Ideal) (m ((c.tc : Thread Cert.ReferenceArcIdeal.nD Cert.ReferenceArcIdeal.τ).loc Cert.ReferenceArcIdeal.main_arg0)) (m ((c.tc : Thread Cert.ReferenceArcIdeal.nD Cert.ReferenceArcIdeal.τ).loc Cert.ReferenceArcIdeal.main_arg1)) (m ((c.tc : Thread Cert.ReferenceArcIdeal.nD Cert.ReferenceArcIdeal.τ).loc Cert.ReferenceArcIdeal.main_arg2)) (m ((c.tc : Thread Cert.ReferenceArcIdeal.nD Cert.ReferenceArcIdeal.τ).loc Cert.ReferenceArcIdeal.main_arg3)) (m ((c.tc : Thread Cert.ReferenceArcIdeal.nD Cert.ReferenceArcIdeal.τ).loc Cert.ReferenceArcIdeal.main_arg4))).2.2.2 = (fun _ => 1#1)

def Pre_KernelHalf (m : (ℓ : Loc Cert.KernelHalf.nD Cert.KernelHalf.τ Cert.KernelHalf.sig) → Buf (Elt Bits) ℓ) : Prop :=
  True

def Pre_KernelHalfIdeal (m : (ℓ : Loc Cert.KernelHalfIdeal.nD Cert.KernelHalfIdeal.τ Cert.KernelHalfIdeal.sig) → Buf (Elt Ideal) ℓ) : Prop :=
  True

def Pre_KernelHalfIdeal_admissible [hPre_admissible : Cert.Pre_admissible.Facts] (m : (ℓ : Loc Cert.KernelHalfIdeal.nD Cert.KernelHalfIdeal.τ Cert.KernelHalfIdeal.sig) → Buf (Elt Ideal) ℓ) : Prop :=
  ∀ c : Dev Cert.KernelHalfIdeal.nD,
    (Cert.Pre_admissible.fn (F := Ideal) (m ((c.tc : Thread Cert.KernelHalfIdeal.nD Cert.KernelHalfIdeal.τ).loc Cert.KernelHalfIdeal.main_arg0)) (m ((c.tc : Thread Cert.KernelHalfIdeal.nD Cert.KernelHalfIdeal.τ).loc Cert.KernelHalfIdeal.main_arg1)) (m ((c.tc : Thread Cert.KernelHalfIdeal.nD Cert.KernelHalfIdeal.τ).loc Cert.KernelHalfIdeal.main_arg2)) (m ((c.tc : Thread Cert.KernelHalfIdeal.nD Cert.KernelHalfIdeal.τ).loc Cert.KernelHalfIdeal.main_arg3)) (m ((c.tc : Thread Cert.KernelHalfIdeal.nD Cert.KernelHalfIdeal.τ).loc Cert.KernelHalfIdeal.main_arg4))).1 = (fun _ => 1#1)
    ∧ (Cert.Pre_admissible.fn (F := Ideal) (m ((c.tc : Thread Cert.KernelHalfIdeal.nD Cert.KernelHalfIdeal.τ).loc Cert.KernelHalfIdeal.main_arg0)) (m ((c.tc : Thread Cert.KernelHalfIdeal.nD Cert.KernelHalfIdeal.τ).loc Cert.KernelHalfIdeal.main_arg1)) (m ((c.tc : Thread Cert.KernelHalfIdeal.nD Cert.KernelHalfIdeal.τ).loc Cert.KernelHalfIdeal.main_arg2)) (m ((c.tc : Thread Cert.KernelHalfIdeal.nD Cert.KernelHalfIdeal.τ).loc Cert.KernelHalfIdeal.main_arg3)) (m ((c.tc : Thread Cert.KernelHalfIdeal.nD Cert.KernelHalfIdeal.τ).loc Cert.KernelHalfIdeal.main_arg4))).2.1 = (fun _ => 1#1)
    ∧ (Cert.Pre_admissible.fn (F := Ideal) (m ((c.tc : Thread Cert.KernelHalfIdeal.nD Cert.KernelHalfIdeal.τ).loc Cert.KernelHalfIdeal.main_arg0)) (m ((c.tc : Thread Cert.KernelHalfIdeal.nD Cert.KernelHalfIdeal.τ).loc Cert.KernelHalfIdeal.main_arg1)) (m ((c.tc : Thread Cert.KernelHalfIdeal.nD Cert.KernelHalfIdeal.τ).loc Cert.KernelHalfIdeal.main_arg2)) (m ((c.tc : Thread Cert.KernelHalfIdeal.nD Cert.KernelHalfIdeal.τ).loc Cert.KernelHalfIdeal.main_arg3)) (m ((c.tc : Thread Cert.KernelHalfIdeal.nD Cert.KernelHalfIdeal.τ).loc Cert.KernelHalfIdeal.main_arg4))).2.2.1 = (fun _ => 1#1)
    ∧ (Cert.Pre_admissible.fn (F := Ideal) (m ((c.tc : Thread Cert.KernelHalfIdeal.nD Cert.KernelHalfIdeal.τ).loc Cert.KernelHalfIdeal.main_arg0)) (m ((c.tc : Thread Cert.KernelHalfIdeal.nD Cert.KernelHalfIdeal.τ).loc Cert.KernelHalfIdeal.main_arg1)) (m ((c.tc : Thread Cert.KernelHalfIdeal.nD Cert.KernelHalfIdeal.τ).loc Cert.KernelHalfIdeal.main_arg2)) (m ((c.tc : Thread Cert.KernelHalfIdeal.nD Cert.KernelHalfIdeal.τ).loc Cert.KernelHalfIdeal.main_arg3)) (m ((c.tc : Thread Cert.KernelHalfIdeal.nD Cert.KernelHalfIdeal.τ).loc Cert.KernelHalfIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceArcIdeal [hReferenceArcIdeal : Cert.ReferenceArcIdeal.Facts] : Prop :=
  ∀ (m : (ℓ : Loc Cert.ReferenceArcIdeal.nD Cert.ReferenceArcIdeal.τ Cert.ReferenceArcIdeal.sig) → Buf (Elt Ideal) ℓ) (g : Dev Cert.ReferenceArcIdeal.nD → PrngReg), Pre_ReferenceArcIdeal m →
    θ_run (Cert.ReferenceArcIdeal.defs (F := Ideal)) (onTc (τ := Cert.ReferenceArcIdeal.τ) (Cert.ReferenceArcIdeal.main (F := Ideal))) ⟨m, fun _ => 0, g⟩ (fun r => (∀ c : Dev Cert.ReferenceArcIdeal.nD,
      r.2.mem ((c.tc : Thread Cert.ReferenceArcIdeal.nD Cert.ReferenceArcIdeal.τ).loc Cert.ReferenceArcIdeal.main_arg0) = m ((c.tc : Thread Cert.ReferenceArcIdeal.nD Cert.ReferenceArcIdeal.τ).loc Cert.ReferenceArcIdeal.main_arg0)
      ∧ r.2.mem ((c.tc : Thread Cert.ReferenceArcIdeal.nD Cert.ReferenceArcIdeal.τ).loc Cert.ReferenceArcIdeal.main_arg1) = m ((c.tc : Thread Cert.ReferenceArcIdeal.nD Cert.ReferenceArcIdeal.τ).loc Cert.ReferenceArcIdeal.main_arg1)
      ∧ r.2.mem ((c.tc : Thread Cert.ReferenceArcIdeal.nD Cert.ReferenceArcIdeal.τ).loc Cert.ReferenceArcIdeal.main_arg2) = m ((c.tc : Thread Cert.ReferenceArcIdeal.nD Cert.ReferenceArcIdeal.τ).loc Cert.ReferenceArcIdeal.main_arg2)
      ∧ r.2.mem ((c.tc : Thread Cert.ReferenceArcIdeal.nD Cert.ReferenceArcIdeal.τ).loc Cert.ReferenceArcIdeal.main_arg3) = m ((c.tc : Thread Cert.ReferenceArcIdeal.nD Cert.ReferenceArcIdeal.τ).loc Cert.ReferenceArcIdeal.main_arg3)
      ∧ r.2.mem ((c.tc : Thread Cert.ReferenceArcIdeal.nD Cert.ReferenceArcIdeal.τ).loc Cert.ReferenceArcIdeal.main_arg4) = m ((c.tc : Thread Cert.ReferenceArcIdeal.nD Cert.ReferenceArcIdeal.τ).loc Cert.ReferenceArcIdeal.main_arg4))
      ∧ r.2.sem = fun _ => 0)

def quiescent_ReferenceArcIdeal_pre_admissible [hReferenceArcIdeal : Cert.ReferenceArcIdeal.Facts] [hPre_admissible : Cert.Pre_admissible.Facts] : Prop :=
  ∀ (m : (ℓ : Loc Cert.ReferenceArcIdeal.nD Cert.ReferenceArcIdeal.τ Cert.ReferenceArcIdeal.sig) → Buf (Elt Ideal) ℓ) (g : Dev Cert.ReferenceArcIdeal.nD → PrngReg), Pre_ReferenceArcIdeal_admissible m →
    θ_run (Cert.ReferenceArcIdeal.defs (F := Ideal)) (onTc (τ := Cert.ReferenceArcIdeal.τ) (Cert.ReferenceArcIdeal.main (F := Ideal))) ⟨m, fun _ => 0, g⟩ (fun r => (∀ c : Dev Cert.ReferenceArcIdeal.nD,
      r.2.mem ((c.tc : Thread Cert.ReferenceArcIdeal.nD Cert.ReferenceArcIdeal.τ).loc Cert.ReferenceArcIdeal.main_arg0) = m ((c.tc : Thread Cert.ReferenceArcIdeal.nD Cert.ReferenceArcIdeal.τ).loc Cert.ReferenceArcIdeal.main_arg0)
      ∧ r.2.mem ((c.tc : Thread Cert.ReferenceArcIdeal.nD Cert.ReferenceArcIdeal.τ).loc Cert.ReferenceArcIdeal.main_arg1) = m ((c.tc : Thread Cert.ReferenceArcIdeal.nD Cert.ReferenceArcIdeal.τ).loc Cert.ReferenceArcIdeal.main_arg1)
      ∧ r.2.mem ((c.tc : Thread Cert.ReferenceArcIdeal.nD Cert.ReferenceArcIdeal.τ).loc Cert.ReferenceArcIdeal.main_arg2) = m ((c.tc : Thread Cert.ReferenceArcIdeal.nD Cert.ReferenceArcIdeal.τ).loc Cert.ReferenceArcIdeal.main_arg2)
      ∧ r.2.mem ((c.tc : Thread Cert.ReferenceArcIdeal.nD Cert.ReferenceArcIdeal.τ).loc Cert.ReferenceArcIdeal.main_arg3) = m ((c.tc : Thread Cert.ReferenceArcIdeal.nD Cert.ReferenceArcIdeal.τ).loc Cert.ReferenceArcIdeal.main_arg3)
      ∧ r.2.mem ((c.tc : Thread Cert.ReferenceArcIdeal.nD Cert.ReferenceArcIdeal.τ).loc Cert.ReferenceArcIdeal.main_arg4) = m ((c.tc : Thread Cert.ReferenceArcIdeal.nD Cert.ReferenceArcIdeal.τ).loc Cert.ReferenceArcIdeal.main_arg4))
      ∧ r.2.sem = fun _ => 0)

def quiescent_KernelHalf [hKernelHalf : Cert.KernelHalf.Facts] : Prop :=
  ∀ (m : (ℓ : Loc Cert.KernelHalf.nD Cert.KernelHalf.τ Cert.KernelHalf.sig) → Buf (Elt Bits) ℓ) (g : Dev Cert.KernelHalf.nD → PrngReg), Pre_KernelHalf m →
    θ_run (Cert.KernelHalf.defs (F := Bits)) (onTc (τ := Cert.KernelHalf.τ) (Cert.KernelHalf.main (F := Bits))) ⟨m, fun _ => 0, g⟩ (fun r => (∀ c : Dev Cert.KernelHalf.nD,
      r.2.mem ((c.tc : Thread Cert.KernelHalf.nD Cert.KernelHalf.τ).loc Cert.KernelHalf.main_arg0) = m ((c.tc : Thread Cert.KernelHalf.nD Cert.KernelHalf.τ).loc Cert.KernelHalf.main_arg0)
      ∧ r.2.mem ((c.tc : Thread Cert.KernelHalf.nD Cert.KernelHalf.τ).loc Cert.KernelHalf.main_arg1) = m ((c.tc : Thread Cert.KernelHalf.nD Cert.KernelHalf.τ).loc Cert.KernelHalf.main_arg1)
      ∧ r.2.mem ((c.tc : Thread Cert.KernelHalf.nD Cert.KernelHalf.τ).loc Cert.KernelHalf.main_arg2) = m ((c.tc : Thread Cert.KernelHalf.nD Cert.KernelHalf.τ).loc Cert.KernelHalf.main_arg2)
      ∧ r.2.mem ((c.tc : Thread Cert.KernelHalf.nD Cert.KernelHalf.τ).loc Cert.KernelHalf.main_arg3) = m ((c.tc : Thread Cert.KernelHalf.nD Cert.KernelHalf.τ).loc Cert.KernelHalf.main_arg3)
      ∧ r.2.mem ((c.tc : Thread Cert.KernelHalf.nD Cert.KernelHalf.τ).loc Cert.KernelHalf.main_arg4) = m ((c.tc : Thread Cert.KernelHalf.nD Cert.KernelHalf.τ).loc Cert.KernelHalf.main_arg4))
      ∧ r.2.sem = fun _ => 0)

def quiescent_KernelHalfIdeal [hKernelHalfIdeal : Cert.KernelHalfIdeal.Facts] : Prop :=
  ∀ (m : (ℓ : Loc Cert.KernelHalfIdeal.nD Cert.KernelHalfIdeal.τ Cert.KernelHalfIdeal.sig) → Buf (Elt Ideal) ℓ) (g : Dev Cert.KernelHalfIdeal.nD → PrngReg), Pre_KernelHalfIdeal m →
    θ_run (Cert.KernelHalfIdeal.defs (F := Ideal)) (onTc (τ := Cert.KernelHalfIdeal.τ) (Cert.KernelHalfIdeal.main (F := Ideal))) ⟨m, fun _ => 0, g⟩ (fun r => (∀ c : Dev Cert.KernelHalfIdeal.nD,
      r.2.mem ((c.tc : Thread Cert.KernelHalfIdeal.nD Cert.KernelHalfIdeal.τ).loc Cert.KernelHalfIdeal.main_arg0) = m ((c.tc : Thread Cert.KernelHalfIdeal.nD Cert.KernelHalfIdeal.τ).loc Cert.KernelHalfIdeal.main_arg0)
      ∧ r.2.mem ((c.tc : Thread Cert.KernelHalfIdeal.nD Cert.KernelHalfIdeal.τ).loc Cert.KernelHalfIdeal.main_arg1) = m ((c.tc : Thread Cert.KernelHalfIdeal.nD Cert.KernelHalfIdeal.τ).loc Cert.KernelHalfIdeal.main_arg1)
      ∧ r.2.mem ((c.tc : Thread Cert.KernelHalfIdeal.nD Cert.KernelHalfIdeal.τ).loc Cert.KernelHalfIdeal.main_arg2) = m ((c.tc : Thread Cert.KernelHalfIdeal.nD Cert.KernelHalfIdeal.τ).loc Cert.KernelHalfIdeal.main_arg2)
      ∧ r.2.mem ((c.tc : Thread Cert.KernelHalfIdeal.nD Cert.KernelHalfIdeal.τ).loc Cert.KernelHalfIdeal.main_arg3) = m ((c.tc : Thread Cert.KernelHalfIdeal.nD Cert.KernelHalfIdeal.τ).loc Cert.KernelHalfIdeal.main_arg3)
      ∧ r.2.mem ((c.tc : Thread Cert.KernelHalfIdeal.nD Cert.KernelHalfIdeal.τ).loc Cert.KernelHalfIdeal.main_arg4) = m ((c.tc : Thread Cert.KernelHalfIdeal.nD Cert.KernelHalfIdeal.τ).loc Cert.KernelHalfIdeal.main_arg4))
      ∧ r.2.sem = fun _ => 0)

def quiescent_KernelHalfIdeal_pre_admissible [hKernelHalfIdeal : Cert.KernelHalfIdeal.Facts] [hPre_admissible : Cert.Pre_admissible.Facts] : Prop :=
  ∀ (m : (ℓ : Loc Cert.KernelHalfIdeal.nD Cert.KernelHalfIdeal.τ Cert.KernelHalfIdeal.sig) → Buf (Elt Ideal) ℓ) (g : Dev Cert.KernelHalfIdeal.nD → PrngReg), Pre_KernelHalfIdeal_admissible m →
    θ_run (Cert.KernelHalfIdeal.defs (F := Ideal)) (onTc (τ := Cert.KernelHalfIdeal.τ) (Cert.KernelHalfIdeal.main (F := Ideal))) ⟨m, fun _ => 0, g⟩ (fun r => (∀ c : Dev Cert.KernelHalfIdeal.nD,
      r.2.mem ((c.tc : Thread Cert.KernelHalfIdeal.nD Cert.KernelHalfIdeal.τ).loc Cert.KernelHalfIdeal.main_arg0) = m ((c.tc : Thread Cert.KernelHalfIdeal.nD Cert.KernelHalfIdeal.τ).loc Cert.KernelHalfIdeal.main_arg0)
      ∧ r.2.mem ((c.tc : Thread Cert.KernelHalfIdeal.nD Cert.KernelHalfIdeal.τ).loc Cert.KernelHalfIdeal.main_arg1) = m ((c.tc : Thread Cert.KernelHalfIdeal.nD Cert.KernelHalfIdeal.τ).loc Cert.KernelHalfIdeal.main_arg1)
      ∧ r.2.mem ((c.tc : Thread Cert.KernelHalfIdeal.nD Cert.KernelHalfIdeal.τ).loc Cert.KernelHalfIdeal.main_arg2) = m ((c.tc : Thread Cert.KernelHalfIdeal.nD Cert.KernelHalfIdeal.τ).loc Cert.KernelHalfIdeal.main_arg2)
      ∧ r.2.mem ((c.tc : Thread Cert.KernelHalfIdeal.nD Cert.KernelHalfIdeal.τ).loc Cert.KernelHalfIdeal.main_arg3) = m ((c.tc : Thread Cert.KernelHalfIdeal.nD Cert.KernelHalfIdeal.τ).loc Cert.KernelHalfIdeal.main_arg3)
      ∧ r.2.mem ((c.tc : Thread Cert.KernelHalfIdeal.nD Cert.KernelHalfIdeal.τ).loc Cert.KernelHalfIdeal.main_arg4) = m ((c.tc : Thread Cert.KernelHalfIdeal.nD Cert.KernelHalfIdeal.τ).loc Cert.KernelHalfIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "sinm" .f32 0x3EF57744#32 ((Real.sqrt (15795093927 / 68719476736) : ℝ) : EReal)

def algebraic_KernelIdeal_ReferenceArcIdeal_pre_admissible [hKernelIdeal : Cert.KernelIdeal.Facts] [hReferenceArcIdeal : Cert.ReferenceArcIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceArcIdeal.nD Cert.ReferenceArcIdeal.τ Cert.ReferenceArcIdeal.sig) → Buf (Elt Ideal) ℓ) (g' : Dev Cert.ReferenceArcIdeal.nD → PrngReg), Pre_KernelIdeal_admissible m →
    (∀ c : Dev Cert.KernelIdeal.nD,
      m' ((c.tc : Thread Cert.ReferenceArcIdeal.nD Cert.ReferenceArcIdeal.τ).loc Cert.ReferenceArcIdeal.main_arg0) = m ((c.tc : Thread Cert.KernelIdeal.nD Cert.KernelIdeal.τ).loc Cert.KernelIdeal.main_arg0)
      ∧ m' ((c.tc : Thread Cert.ReferenceArcIdeal.nD Cert.ReferenceArcIdeal.τ).loc Cert.ReferenceArcIdeal.main_arg1) = m ((c.tc : Thread Cert.KernelIdeal.nD Cert.KernelIdeal.τ).loc Cert.KernelIdeal.main_arg1)
      ∧ m' ((c.tc : Thread Cert.ReferenceArcIdeal.nD Cert.ReferenceArcIdeal.τ).loc Cert.ReferenceArcIdeal.main_arg2) = m ((c.tc : Thread Cert.KernelIdeal.nD Cert.KernelIdeal.τ).loc Cert.KernelIdeal.main_arg2)
      ∧ m' ((c.tc : Thread Cert.ReferenceArcIdeal.nD Cert.ReferenceArcIdeal.τ).loc Cert.ReferenceArcIdeal.main_arg3) = m ((c.tc : Thread Cert.KernelIdeal.nD Cert.KernelIdeal.τ).loc Cert.KernelIdeal.main_arg3)
      ∧ m' ((c.tc : Thread Cert.ReferenceArcIdeal.nD Cert.ReferenceArcIdeal.τ).loc Cert.ReferenceArcIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceArcIdeal.defs (F := Ideal)) (onTc (τ := Cert.ReferenceArcIdeal.τ) (Cert.ReferenceArcIdeal.main (F := Ideal))) ⟨m', fun _ => 0, g'⟩ (fun r => ∀ c : Dev Cert.ReferenceArcIdeal.nD,
          r.2.mem ((c.tc : Thread Cert.ReferenceArcIdeal.nD Cert.ReferenceArcIdeal.τ).loc Cert.ReferenceArcIdeal.main_v92) = v0 c
          ∧ r.2.mem ((c.tc : Thread Cert.ReferenceArcIdeal.nD Cert.ReferenceArcIdeal.τ).loc Cert.ReferenceArcIdeal.main_arg0) = m' ((c.tc : Thread Cert.ReferenceArcIdeal.nD Cert.ReferenceArcIdeal.τ).loc Cert.ReferenceArcIdeal.main_arg0)
          ∧ r.2.mem ((c.tc : Thread Cert.ReferenceArcIdeal.nD Cert.ReferenceArcIdeal.τ).loc Cert.ReferenceArcIdeal.main_arg1) = m' ((c.tc : Thread Cert.ReferenceArcIdeal.nD Cert.ReferenceArcIdeal.τ).loc Cert.ReferenceArcIdeal.main_arg1)
          ∧ r.2.mem ((c.tc : Thread Cert.ReferenceArcIdeal.nD Cert.ReferenceArcIdeal.τ).loc Cert.ReferenceArcIdeal.main_arg2) = m' ((c.tc : Thread Cert.ReferenceArcIdeal.nD Cert.ReferenceArcIdeal.τ).loc Cert.ReferenceArcIdeal.main_arg2)
          ∧ r.2.mem ((c.tc : Thread Cert.ReferenceArcIdeal.nD Cert.ReferenceArcIdeal.τ).loc Cert.ReferenceArcIdeal.main_arg3) = m' ((c.tc : Thread Cert.ReferenceArcIdeal.nD Cert.ReferenceArcIdeal.τ).loc Cert.ReferenceArcIdeal.main_arg3)
          ∧ r.2.mem ((c.tc : Thread Cert.ReferenceArcIdeal.nD Cert.ReferenceArcIdeal.τ).loc Cert.ReferenceArcIdeal.main_arg4) = m' ((c.tc : Thread Cert.ReferenceArcIdeal.nD Cert.ReferenceArcIdeal.τ).loc Cert.ReferenceArcIdeal.main_arg4))

def preserves_KernelHalf_KernelHalfIdeal : Prop :=
  True

def algebraic_KernelHalfIdeal_ReferenceIdeal_pre_admissible [hKernelHalfIdeal : Cert.KernelHalfIdeal.Facts] [hReferenceIdeal : Cert.ReferenceIdeal.Facts] [hPre_admissible : Cert.Pre_admissible.Facts] : Prop :=
  ∀ (m : (ℓ : Loc Cert.KernelHalfIdeal.nD Cert.KernelHalfIdeal.τ Cert.KernelHalfIdeal.sig) → Buf (Elt Ideal) ℓ) (g : Dev Cert.KernelHalfIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelHalfIdeal_admissible m →
    (∀ c : Dev Cert.KernelHalfIdeal.nD,
      m' ((c.tc : Thread Cert.ReferenceIdeal.nD Cert.ReferenceIdeal.τ).loc Cert.ReferenceIdeal.main_arg0) = m ((c.tc : Thread Cert.KernelHalfIdeal.nD Cert.KernelHalfIdeal.τ).loc Cert.KernelHalfIdeal.main_arg0)
      ∧ m' ((c.tc : Thread Cert.ReferenceIdeal.nD Cert.ReferenceIdeal.τ).loc Cert.ReferenceIdeal.main_arg1) = m ((c.tc : Thread Cert.KernelHalfIdeal.nD Cert.KernelHalfIdeal.τ).loc Cert.KernelHalfIdeal.main_arg1)
      ∧ m' ((c.tc : Thread Cert.ReferenceIdeal.nD Cert.ReferenceIdeal.τ).loc Cert.ReferenceIdeal.main_arg2) = m ((c.tc : Thread Cert.KernelHalfIdeal.nD Cert.KernelHalfIdeal.τ).loc Cert.KernelHalfIdeal.main_arg2)
      ∧ m' ((c.tc : Thread Cert.ReferenceIdeal.nD Cert.ReferenceIdeal.τ).loc Cert.ReferenceIdeal.main_arg3) = m ((c.tc : Thread Cert.KernelHalfIdeal.nD Cert.KernelHalfIdeal.τ).loc Cert.KernelHalfIdeal.main_arg3)
      ∧ m' ((c.tc : Thread Cert.ReferenceIdeal.nD Cert.ReferenceIdeal.τ).loc Cert.ReferenceIdeal.main_arg4) = m ((c.tc : Thread Cert.KernelHalfIdeal.nD Cert.KernelHalfIdeal.τ).loc Cert.KernelHalfIdeal.main_arg4)) →
    ∃ (v0 : (c : Dev Cert.KernelHalfIdeal.nD) → Buf (Elt Ideal) ((c.tc : Thread Cert.KernelHalfIdeal.nD Cert.KernelHalfIdeal.τ).loc Cert.KernelHalfIdeal.main_v2)),
      θ_run (Cert.KernelHalfIdeal.defs (F := Ideal)) (onTc (τ := Cert.KernelHalfIdeal.τ) (Cert.KernelHalfIdeal.main (F := Ideal))) ⟨m, fun _ => 0, g⟩ (fun r => ∀ c : Dev Cert.KernelHalfIdeal.nD,
          r.2.mem ((c.tc : Thread Cert.KernelHalfIdeal.nD Cert.KernelHalfIdeal.τ).loc Cert.KernelHalfIdeal.main_v2) = v0 c
          ∧ r.2.mem ((c.tc : Thread Cert.KernelHalfIdeal.nD Cert.KernelHalfIdeal.τ).loc Cert.KernelHalfIdeal.main_arg0) = m ((c.tc : Thread Cert.KernelHalfIdeal.nD Cert.KernelHalfIdeal.τ).loc Cert.KernelHalfIdeal.main_arg0)
          ∧ r.2.mem ((c.tc : Thread Cert.KernelHalfIdeal.nD Cert.KernelHalfIdeal.τ).loc Cert.KernelHalfIdeal.main_arg1) = m ((c.tc : Thread Cert.KernelHalfIdeal.nD Cert.KernelHalfIdeal.τ).loc Cert.KernelHalfIdeal.main_arg1)
          ∧ r.2.mem ((c.tc : Thread Cert.KernelHalfIdeal.nD Cert.KernelHalfIdeal.τ).loc Cert.KernelHalfIdeal.main_arg2) = m ((c.tc : Thread Cert.KernelHalfIdeal.nD Cert.KernelHalfIdeal.τ).loc Cert.KernelHalfIdeal.main_arg2)
          ∧ r.2.mem ((c.tc : Thread Cert.KernelHalfIdeal.nD Cert.KernelHalfIdeal.τ).loc Cert.KernelHalfIdeal.main_arg3) = m ((c.tc : Thread Cert.KernelHalfIdeal.nD Cert.KernelHalfIdeal.τ).loc Cert.KernelHalfIdeal.main_arg3)
          ∧ r.2.mem ((c.tc : Thread Cert.KernelHalfIdeal.nD Cert.KernelHalfIdeal.τ).loc Cert.KernelHalfIdeal.main_arg4) = m ((c.tc : Thread Cert.KernelHalfIdeal.nD Cert.KernelHalfIdeal.τ).loc Cert.KernelHalfIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceArcIdeal : Cert.ReferenceArcIdeal.Facts) (hKernelHalf : Cert.KernelHalf.Facts) (hKernelHalfIdeal : Cert.KernelHalfIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceArcIdeal (hReferenceArcIdeal := hReferenceArcIdeal)
    ∧ quiescent_ReferenceArcIdeal_pre_admissible (hReferenceArcIdeal := hReferenceArcIdeal) (hPre_admissible := hPre_admissible)
    ∧ quiescent_KernelHalf (hKernelHalf := hKernelHalf)
    ∧ quiescent_KernelHalfIdeal (hKernelHalfIdeal := hKernelHalfIdeal)
    ∧ quiescent_KernelHalfIdeal_pre_admissible (hKernelHalfIdeal := hKernelHalfIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceArcIdeal_pre_admissible (hKernelIdeal := hKernelIdeal) (hReferenceArcIdeal := hReferenceArcIdeal) (hPre_admissible := hPre_admissible)
    ∧ preserves_KernelHalf_KernelHalfIdeal
    ∧ algebraic_KernelHalfIdeal_ReferenceIdeal_pre_admissible (hKernelHalfIdeal := hKernelHalfIdeal) (hReferenceIdeal := hReferenceIdeal) (hPre_admissible := hPre_admissible)
-- ==== Pre_admissible.lean ====
abbrev S1024x1 : Shape := ⟨2, ![1024, 1]⟩
abbrev S1024x128 : Shape := ⟨2, ![1024, 128]⟩
abbrev S1024 : Shape := ⟨1, ![1024]⟩
abbrev S1x128 : Shape := ⟨2, ![1, 128]⟩
abbrev S_ : Shape := ⟨0, ![]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1024x1024 : Shape := ⟨2, ![1024, 1024]⟩
abbrev S1x1024 : Shape := ⟨2, ![1, 1024]⟩

class Facts : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  reducesTo_S1024x1024x128_S1024x1024_d2 : S1024x1024x128.ReducesTo [2] S1024x1024
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  shapeCasts_S1024x1_S1024 : S1024x1.ShapeCasts S1024
  bcast_S_S1024 : S_.BroadcastsInDim S1024 (![] : Fin 0 → Fin S1024.rank)
  bcast_S_S1024x1 : S_.BroadcastsInDim S1024x1 (![] : Fin 0 → Fin S1024x1.rank)
  bcast_S_S1024x128 : S_.BroadcastsInDim S1024x128 (![] : Fin 0 → Fin S1024x128.rank)
  bcast_S_S1x128 : S_.BroadcastsInDim S1x128 (![] : Fin 0 → Fin S1x128.rank)
  bcast_S_S1024x1024 : S_.BroadcastsInDim S1024x1024 (![] : Fin 0 → Fin S1024x1024.rank)

variable [Facts]

def fn_part2 {F : FTy → Type} [FloatOps F] (main_v12 : FVec F S1024x1024 .f32) (main_v31 : IVec S1024x1024 1) (main_v33 : IVec S1024 1) (main_v36 : IVec S1024x1 1) (main_v39 : IVec S1024x128 1) (main_v40 : FVec F S1x128 .f32) (main_v41 : FVec F S1x128 .f32) : IVec S1024x1 1 × IVec S1024x128 1 × IVec S1x128 1 × IVec S1024x1024 1 :=
  let main_v42 : IVec S1x128 1 := cmpf .olt main_v40 main_v41
  let main_v43 : IVec S1024x1024 1 := noti main_v31
  let main_v44 : IVec S1024x1 1 := broadcastInDim S1024x1 ![0] bcast_S1024_S1024x1_0 main_v33
  let main_v45 : IVec S1x1024 1 := broadcastInDim S1x1024 ![1] bcast_S1024_S1x1024_1 main_v33
  let main_v46 : IVec S1024x1024 1 := broadcastInDim S1024x1024 ![0, 1] bcast_S1024x1_S1024x1024_0_1 main_v44
  let main_v47 : IVec S1024x1024 1 := broadcastInDim S1024x1024 ![0, 1] bcast_S1x1024_S1024x1024_0_1 main_v45
  let main_v48 : IVec S1024x1024 1 := andi main_v46 main_v47
  let main_cst_5 : FVec F S_ .f32 := constant S_ .f32 0x0DA24260#32
  let main_v49 : FVec F S1024x1024 .f32 := broadcastInDim S1024x1024 ![] bcast_S_S1024x1024 main_cst_5
  let main_v50 : IVec S1024x1024 1 := cmpf .oge main_v12 main_v49
  let main_v51 : IVec S1024x1024 1 := andi main_v48 main_v50
  let main_v52 : IVec S1024x1024 1 := ori main_v43 main_v51
  (main_v36, main_v39, main_v42, main_v52)

def fn_part1 {F : FTy → Type} [FloatOps F] (main_arg1 : FVec F S1024x1 .f32) (main_arg2 : FVec F S1024x128 .f32) (main_arg4 : FVec F S1x128 .f32) (main_v1 : FVec F S1024 .f32) (main_v12 : FVec F S1024x1024 .f32) (main_v18 : IVec S1024x1024 1) (main_v20 : IVec S1x1024 32) (main_v21 : IVec S1024x1024 32) : IVec S1024x1 1 × IVec S1024x128 1 × IVec S1x128 1 × IVec S1024x1024 1 :=
  let main_v22 : IVec S1024x1024 32 := broadcastInDim S1024x1024 ![0, 1] bcast_S1x1024_S1024x1024_0_1 main_v20
  let main_v23 : IVec S1024x1024 1 := cmpi .eq main_v21 main_v22
  let main_v24 : FVec F S1024 .f32 := shapeCast S1024 main_arg1 shapeCasts_S1024x1_S1024
  let main_v25 : FVec F S1024x1 .f32 := broadcastInDim S1024x1 ![0] bcast_S1024_S1024x1_0 main_v24
  let main_v26 : FVec F S1x1024 .f32 := broadcastInDim S1x1024 ![1] bcast_S1024_S1x1024_1 main_v24
  let main_v27 : FVec F S1024x1024 .f32 := broadcastInDim S1024x1024 ![0, 1] bcast_S1024x1_S1024x1024_0_1 main_v25
  let main_v28 : FVec F S1024x1024 .f32 := broadcastInDim S1024x1024 ![0, 1] bcast_S1x1024_S1024x1024_0_1 main_v26
  let main_v29 : IVec S1024x1024 1 := cmpf .oeq main_v27 main_v28
  let main_v30 : IVec S1024x1024 1 := xori main_v23 main_v29
  let main_v31 : IVec S1024x1024 1 := andi main_v18 main_v30
  let main_cst_1 : FVec F S_ .f32 := constant S_ .f32 0x179ABE15#32
  let main_v32 : FVec F S1024 .f32 := broadcastInDim S1024 ![] bcast_S_S1024 main_cst_1
  let main_v33 : IVec S1024 1 := cmpf .oge main_v1 main_v32
  let main_v34 : FVec F S1024x1 .f32 := Host.absf main_arg1
  let main_cst_2 : FVec F S_ .f32 := constant S_ .f32 0x7F800000#32
  let main_v35 : FVec F S1024x1 .f32 := broadcastInDim S1024x1 ![] bcast_S_S1024x1 main_cst_2
  let main_v36 : IVec S1024x1 1 := cmpf .olt main_v34 main_v35
  let main_v37 : FVec F S1024x128 .f32 := Host.absf main_arg2
  let main_cst_3 : FVec F S_ .f32 := constant S_ .f32 0x7F800000#32
  let main_v38 : FVec F S1024x128 .f32 := broadcastInDim S1024x128 ![] bcast_S_S1024x128 main_cst_3
  let main_v39 : IVec S1024x128 1 := cmpf .olt main_v37 main_v38
  let main_v40 : FVec F S1x128 .f32 := Host.absf main_arg4
  let main_cst_4 : FVec F S_ .f32 := constant S_ .f32 0x7F800000#32
  let main_v41 : FVec F S1x128 .f32 := broadcastInDim S1x128 ![] bcast_S_S1x128 main_cst_4
  fn_part2 (F := F) main_v12 main_v31 main_v33 main_v36 main_v39 main_v40 main_v41

def fn {F : FTy → Type} [FloatOps F] (main_arg0 : FVec F S1024x1 .f32) (main_arg1 : FVec F S1024x1 .f32) (main_arg2 : FVec F S1024x128 .f32) (main_arg3 : IVec S1024 32) (main_arg4 : FVec F S1x128 .f32) : IVec S1024x1 1 × IVec S1024x128 1 × IVec S1x128 1 × IVec S1024x1024 1 :=
  let main_v0 : FVec F S1024x128 .f32 := mulf main_arg2 main_arg2
  let main_cst : FVec F S_ .f32 := constant S_ .f32 0x00000000#32
  let main_v1 : FVec F S1024 .f32 := (fun x v => Host.reduceAdd x v reducesTo_S1024x128_S1024_d1 h_S_) main_v0 main_cst
  let main_v2 : FVec F S1024 .f32 := Host.sqrt main_v1
  let main_v3 : FVec F S1024x1 .f32 := broadcastInDim S1024x1 ![0] bcast_S1024_S1024x1_0 main_v2
  let main_v4 : FVec F S1024x128 .f32 := broadcastInDim S1024x128 ![0, 1] bcast_S1024x1_S1024x128_0_1 main_v3
  let main_v5 : FVec F S1024x128 .f32 := Host.divf main_arg2 main_v4
  let main_v6 : FVec F S1024x1x128 .f32 := broadcastInDim S1024x1x128 ![0, 2] bcast_S1024x128_S1024x1x128_0_2 main_v5
  let main_v7 : FVec F S1x1024x128 .f32 := broadcastInDim S1x1024x128 ![1, 2] bcast_S1024x128_S1x1024x128_1_2 main_v5
  let main_v8 : FVec F S1024x1024x128 .f32 := broadcastInDim S1024x1024x128 ![0, 1, 2] bcast_S1024x1x128_S1024x1024x128_0_1_2 main_v6
  let main_v9 : FVec F S1024x1024x128 .f32 := broadcastInDim S1024x1024x128 ![0, 1, 2] bcast_S1x1024x128_S1024x1024x128_0_1_2 main_v7
  let main_v10 : FVec F S1024x1024x128 .f32 := subf main_v8 main_v9
  let main_v11 : FVec F S1024x1024x128 .f32 := mulf main_v10 main_v10
  let main_cst_0 : FVec F S_ .f32 := constant S_ .f32 0x00000000#32
  let main_v12 : FVec F S1024x1024 .f32 := (fun x v => Host.reduceAdd x v reducesTo_S1024x1024x128_S1024x1024_d2 h_S_) main_v11 main_cst_0
  let main_v13 : IVec S1024 32 := iotaInDim S1024 32 0
  let main_v14 : IVec S1024x1 32 := broadcastInDim S1024x1 ![0] bcast_S1024_S1024x1_0 main_v13
  let main_v15 : IVec S1x1024 32 := broadcastInDim S1x1024 ![1] bcast_S1024_S1x1024_1 main_v13
  let main_v16 : IVec S1024x1024 32 := broadcastInDim S1024x1024 ![0, 1] bcast_S1024x1_S1024x1024_0_1 main_v14
  let main_v17 : IVec S1024x1024 32 := broadcastInDim S1024x1024 ![0, 1] bcast_S1x1024_S1024x1024_0_1 main_v15
  let main_v18 : IVec S1024x1024 1 := cmpi .slt main_v16 main_v17
  let main_v19 : IVec S1024x1 32 := broadcastInDim S1024x1 ![0] bcast_S1024_S1024x1_0 main_arg3
  let main_v20 : IVec S1x1024 32 := broadcastInDim S1x1024 ![1] bcast_S1024_S1x1024_1 main_arg3
  let main_v21 : IVec S1024x1024 32 := broadcastInDim S1024x1024 ![0, 1] bcast_S1024x1_S1024x1024_0_1 main_v19
  fn_part1 (F := F) main_arg1 main_arg2 main_arg4 main_v1 main_v12 main_v18 main_v20 main_v21
-- ==== Kernel.lean ====
abbrev S1024x1 : Shape := ⟨2, ![1024, 1]⟩
abbrev S1024x128 : Shape := ⟨2, ![1024, 128]⟩
abbrev S1024 : Shape := ⟨1, ![1024]⟩
abbrev S1x128 : Shape := ⟨2, ![1, 128]⟩
abbrev S1x1024 : Shape := ⟨2, ![1, 1024]⟩
abbrev S1x1 : Shape := ⟨2, ![1, 1]⟩
abbrev S128x1 : Shape := ⟨2, ![128, 1]⟩
abbrev S1x1x128 : Shape := ⟨3, ![1, 1, 128]⟩
abbrev S1 : Shape := ⟨1, ![1]⟩
abbrev S1x1x1 : Shape := ⟨3, ![1, 1, 1]⟩
abbrev S1x1x1024 : Shape := ⟨3, ![1, 1, 1024]⟩
abbrev S512x128 : Shape := ⟨2, ![512, 128]⟩
abbrev S512x512 : Shape := ⟨2, ![512, 512]⟩
abbrev S512x1 : Shape := ⟨2, ![512, 1]⟩
abbrev S1x512 : Shape := ⟨2, ![1, 512]⟩
abbrev S1x512x512 : Shape := ⟨3, ![1, 512, 512]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S1024x1, .f32⟩
  | .hbm, ⟨1, _⟩ => ⟨S1024x1, .f32⟩
  | .hbm, ⟨2, _⟩ => ⟨S1024x128, .f32⟩
  | .hbm, ⟨3, _⟩ => ⟨S1024, .i32⟩
  | .hbm, ⟨4, _⟩ => ⟨S1x128, .f32⟩
  | .hbm, ⟨5, _⟩ => ⟨S1x1024, .i32⟩
  | .hbm, ⟨6, _⟩ => ⟨S1x1, .f32⟩
  | .hbm, ⟨7, _⟩ => ⟨S_, .f32⟩
  | .local _ .vmem, ⟨0, _⟩ => ⟨S1024x1, .f32⟩
  | .local _ .vmem, ⟨1, _⟩ => ⟨S1x1024, .i32⟩
  | .local _ .vmem, ⟨2, _⟩ => ⟨S1024x128, .f32⟩
  | .local _ .vmem, ⟨3, _⟩ => ⟨S1x128, .f32⟩
  | .local _ .vmem, ⟨4, _⟩ => ⟨S1x1, .f32⟩
  | _, _ => ⟨S1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "sinm" => some ((Real.sqrt (15795093927 / 68719476736) : ℝ) : EReal)
  | _ => none
-- ==== ReferenceArcIdeal.lean ====
abbrev S1024x1 : Shape := ⟨2, ![1024, 1]⟩
abbrev S1024x128 : Shape := ⟨2, ![1024, 128]⟩
abbrev S1024 : Shape := ⟨1, ![1024]⟩
abbrev S1x128 : Shape := ⟨2, ![1, 128]⟩
abbrev S_ : Shape := ⟨0, ![]⟩
abbrev S128x1 : Shape := ⟨2, ![128, 1]⟩
abbrev S1x1024 : Shape := ⟨2, ![1, 1024]⟩
abbrev S1024x1024 : Shape := ⟨2, ![1024, 1024]⟩
abbrev S1024x1x128 : Shape := ⟨3, ![1024, 1, 128]⟩
abbrev S1x1024x128 : Shape := ⟨3, ![1, 1024, 128]⟩
abbrev S1024x1024x128 : Shape := ⟨3, ![1024, 1024, 128]⟩

abbrev nBuf : Space → Nat
  | .hbm => 132
  | .vmem => 0
  | .smem => 0
  | _ => 0

abbrev hbmTy0_0 (i : Nat) : BufTy := match i % 128 with
  | 0 => ⟨S1024x1, .f32⟩
  | 1 => ⟨S1024x1, .f32⟩
  | 2 => ⟨S1024x128, .f32⟩
  | 3 => ⟨S1024, .i32⟩
  | 4 => ⟨S1x128, .f32⟩
  | 5 => ⟨S_, .f32⟩
  | 6 => ⟨S_, .f32⟩
  | 7 => ⟨S1x128, .f32⟩
  | 8 => ⟨S_, .f32⟩
  | 9 => ⟨S_, .f32⟩
  | 10 => ⟨S_, .f32⟩
  | 11 => ⟨S1024x128, .f32⟩
  | 12 => ⟨S_, .f32⟩
  | 13 => ⟨S1024, .f32⟩
  | 14 => ⟨S1024, .f32⟩
  | 15 => ⟨S1024, .f32⟩
  | 16 => ⟨S1024, .f32⟩
  | 17 => ⟨S1024x1, .f32⟩
  | 18 => ⟨S128x1, .f32⟩
  | 19 => ⟨S1024x1, .f32⟩
  | 20 => ⟨S1024x1, .f32⟩
  | 21 => ⟨S1024x1, .f32⟩
  | 22 => ⟨S1024x1, .f32⟩
  | 23 => ⟨S_, .f32⟩
  | 24 => ⟨S1024x1, .f32⟩
  | 25 => ⟨S1024x1, .f32⟩
  | 26 => ⟨S1024x1, .f32⟩
  | 27 => ⟨S1024x1, .f32⟩
  | 28 => ⟨S_, .f32⟩
  | 29 => ⟨S1024x1, .f32⟩
  | 30 => ⟨S1024x1, .f32⟩
  | 31 => ⟨S1024x1, .f32⟩
  | 32 => ⟨S_, .f32⟩
  | 33 => ⟨S1024x1, .f32⟩
  | 34 => ⟨S1024x1, .f32⟩
  | 35 => ⟨S1024x1, .f32⟩
  | 36 => ⟨S1024x1, .f32⟩
  | 37 => ⟨S1024x1, .f32⟩
  | 38 => ⟨S1024x128, .f32⟩
  | 39 => ⟨S_, .f32⟩
  | 40 => ⟨S1024, .f32⟩
  | 41 => ⟨S1024x1, .f32⟩
  | 42 => ⟨S1024x1, .f32⟩
  | 43 => ⟨S_, .f32⟩
  | 44 => ⟨S1024x1, .f32⟩
  | 45 => ⟨S1024x1, .f32⟩
  | 46 => ⟨S1024x128, .f32⟩
  | 47 => ⟨S1024x128, .f32⟩
  | 48 => ⟨S1024, .i32⟩
  | 49 => ⟨S1024x1, .i32⟩
  | 50 => ⟨S1x1024, .i32⟩
  | 51 => ⟨S1024x1024, .i32⟩
  | 52 => ⟨S1024x1024, .i32⟩
  | 53 => ⟨S1024x1024, .i1⟩
  | 54 => ⟨S1024, .f32⟩
  | 55 => ⟨S1024x1, .i32⟩
  | 56 => ⟨S1x1024, .i32⟩
  | 57 => ⟨S1024x1024, .i32⟩
  | 58 => ⟨S1024x1024, .i32⟩
  | 59 => ⟨S1024x1024, .i1⟩
  | 60 => ⟨S1024x1, .f32⟩
  | 61 => ⟨S1x1024, .f32⟩
  | 62 => ⟨S1024x1024, .f32⟩
  | 63 => ⟨S1024x1024, .f32⟩
  | 64 => ⟨S1024x1024, .i1⟩
  | 65 => ⟨S1024x1024, .i1⟩
  | 66 => ⟨S1024x1024, .i1⟩
  | 67 => ⟨S1024x1024, .i1⟩
  | 68 => ⟨S1024x1024, .i1⟩
  | 69 => ⟨S1024x1024, .i1⟩
  | 70 => ⟨S1024x1024, .i1⟩
  | 71 => ⟨S1024x1x128, .f32⟩
  | 72 => ⟨S1x1024x128, .f32⟩
  | 73 => ⟨S1024x1024x128, .f32⟩
  | 74 => ⟨S1024x1024x128, .f32⟩
  | 75 => ⟨S1024x1024x128, .f32⟩
  | 76 => ⟨S1024x1024x128, .f32⟩
  | 77 => ⟨S_, .f32⟩
  | 78 => ⟨S1024x1024, .f32⟩
  | 79 => ⟨S1024x1024, .f32⟩
  | 80 => ⟨S1024x1024, .f32⟩
  | 81 => ⟨S1024x1024, .f32⟩
  | 82 => ⟨S_, .f32⟩
  | 83 => ⟨S_, .f32⟩
  | 84 => ⟨S_, .f32⟩
  | 85 => ⟨S_, .f32⟩
  | 86 => ⟨S_, .f32⟩
  | 87 => ⟨S_, .i1⟩
  | 88 => ⟨S1024x1024, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .i1⟩
  | 99 => ⟨S_, .f32⟩
  | 100 => ⟨S1024x1024, .f32⟩
  | 101 => ⟨S1024x1024, .f32⟩
  | 102 => ⟨S_, .f32⟩
  | 103 => ⟨S1024x1024, .f32⟩
  | 104 => ⟨S1024x1024, .f32⟩
  | 105 => ⟨S1024x1024, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S1024x1, .f32⟩
  | 117 => ⟨S1024x1, .f32⟩
  | 118 => ⟨S1024x1, .f32⟩
  | 119 => ⟨S1024x1, .f32⟩
  | 120 => ⟨S1024x1, .f32⟩
  | 121 => ⟨S1024x1, .f32⟩
  | 122 => ⟨S1024x1, .f32⟩
  | 123 => ⟨S1024x1, .f32⟩
  | 124 => ⟨S1024x1, .f32⟩
  | 125 => ⟨S_, .f32⟩
  | 126 => ⟨S_, .f32⟩
  | 127 => ⟨S_, .f32⟩
  | _ => ⟨S1024x1, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S1024x1, .f32⟩

abbrev hbmTy (i : Nat) : BufTy := match i / 128 with
  | 0 => hbmTy0_0 i
  | 1 => hbmTy0_1 i
  | _ => ⟨S1024x1, .f32⟩

abbrev bufTy : (tb : Table) → Fin (tcTables nBuf tb) → BufTy
  | .hbm, ⟨i, _⟩ => hbmTy i
  | _, _ => ⟨S1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v1 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call2_v0 : Ref sig .tc := ⟨.hbm, 38, rfl⟩
abbrev main_call2_cst : Ref sig .tc := ⟨.hbm, 39, rfl⟩
abbrev main_call2_v1 : Ref sig .tc := ⟨.hbm, 40, rfl⟩
abbrev main_call2_v2 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call3_v0 : Ref sig .tc := ⟨.hbm, 76, rfl⟩
abbrev main_call3_cst : Ref sig .tc := ⟨.hbm, 77, rfl⟩
abbrev main_call3_v1 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_2 : Ref sig .tc := ⟨.hbm, 82, rfl⟩
abbrev main_v61 : Ref sig .tc := ⟨.hbm, 83, rfl⟩
abbrev main_cst_3 : Ref sig .tc := ⟨.hbm, 84, rfl⟩
abbrev main_v62 : Ref sig .tc := ⟨.hbm, 85, rfl⟩
abbrev main_cst_4 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_cst_6 : Ref sig .tc := ⟨.hbm, 91, rfl⟩
abbrev main_v66 : Ref sig .tc := ⟨.hbm, 92, rfl⟩
abbrev main_v67 : Ref sig .tc := ⟨.hbm, 93, rfl⟩
abbrev main_cst_7 : Ref sig .tc := ⟨.hbm, 94, rfl⟩
abbrev main_call4_v0 : Ref sig .tc := ⟨.hbm, 95, rfl⟩
abbrev main_v68 : Ref sig .tc := ⟨.hbm, 96, rfl⟩
abbrev main_cst_8 : Ref sig .tc := ⟨.hbm, 97, rfl⟩
abbrev main_v69 : Ref sig .tc := ⟨.hbm, 98, rfl⟩
abbrev main_cst_9 : Ref sig .tc := ⟨.hbm, 99, rfl⟩
abbrev main_v70 : Ref sig .tc := ⟨.hbm, 100, rfl⟩
abbrev main_v71 : Ref sig .tc := ⟨.hbm, 101, rfl⟩
abbrev main_cst_10 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_11 : Ref sig .tc := ⟨.hbm, 106, rfl⟩
abbrev main_v75 : Ref sig .tc := ⟨.hbm, 107, rfl⟩
abbrev main_cst_12 : Ref sig .tc := ⟨.hbm, 108, rfl⟩
abbrev main_v76 : Ref sig .tc := ⟨.hbm, 109, rfl⟩
abbrev main_v77 : Ref sig .tc := ⟨.hbm, 110, rfl⟩
abbrev main_cst_13 : Ref sig .tc := ⟨.hbm, 111, rfl⟩
abbrev main_call5_v0 : Ref sig .tc := ⟨.hbm, 112, rfl⟩
abbrev main_v78 : Ref sig .tc := ⟨.hbm, 113, rfl⟩
abbrev main_v79 : Ref sig .tc := ⟨.hbm, 114, rfl⟩
abbrev main_cst_14 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_15 : Ref sig .tc := ⟨.hbm, 125, rfl⟩
abbrev main_v89 : Ref sig .tc := ⟨.hbm, 126, rfl⟩
abbrev main_cst_16 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_v92 : Ref sig .tc := ⟨.hbm, 131, rfl⟩

abbrev nD : Nat := 1
abbrev τ : Topo := Topo.v7x

variable {F : FTy → Type} [FloatOps F]
-- ==== KernelHalf.lean ====
abbrev S1024x1 : Shape := ⟨2, ![1024, 1]⟩
abbrev S1024x128 : Shape := ⟨2, ![1024, 128]⟩
abbrev S1024 : Shape := ⟨1, ![1024]⟩
abbrev S1x128 : Shape := ⟨2, ![1, 128]⟩
abbrev S1x1024 : Shape := ⟨2, ![1, 1024]⟩
abbrev S1x1 : Shape := ⟨2, ![1, 1]⟩
abbrev S128x1 : Shape := ⟨2, ![128, 1]⟩
abbrev S1x1x128 : Shape := ⟨3, ![1, 1, 128]⟩
abbrev S1 : Shape := ⟨1, ![1]⟩
abbrev S1x1x1 : Shape := ⟨3, ![1, 1, 1]⟩
abbrev S1x1x1024 : Shape := ⟨3, ![1, 1, 1024]⟩
abbrev S512x128 : Shape := ⟨2, ![512, 128]⟩
abbrev S512x512 : Shape := ⟨2, ![512, 512]⟩
abbrev S512x1 : Shape := ⟨2, ![512, 1]⟩
abbrev S1x512 : Shape := ⟨2, ![1, 512]⟩
abbrev S1x512x512 : Shape := ⟨3, ![1, 512, 512]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S1024x1, .f32⟩
  | .hbm, ⟨1, _⟩ => ⟨S1024x1, .f32⟩
  | .hbm, ⟨2, _⟩ => ⟨S1024x128, .f32⟩
  | .hbm, ⟨3, _⟩ => ⟨S1024, .i32⟩
  | .hbm, ⟨4, _⟩ => ⟨S1x128, .f32⟩
  | .hbm, ⟨5, _⟩ => ⟨S1x1024, .i32⟩
  | .hbm, ⟨6, _⟩ => ⟨S1x1, .f32⟩
  | .hbm, ⟨7, _⟩ => ⟨S_, .f32⟩
  | .local _ .vmem, ⟨0, _⟩ => ⟨S1024x1, .f32⟩
  | .local _ .vmem, ⟨1, _⟩ => ⟨S1x1024, .i32⟩
  | .local _ .vmem, ⟨2, _⟩ => ⟨S1024x128, .f32⟩
  | .local _ .vmem, ⟨3, _⟩ => ⟨S1x128, .f32⟩
  | .local _ .vmem, ⟨4, _⟩ => ⟨S1x1, .f32⟩
  | _, _ => ⟨S1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x1 : Shape := ⟨2, ![1024, 1]⟩
abbrev S1024x128 : Shape := ⟨2, ![1024, 128]⟩
abbrev S1024 : Shape := ⟨1, ![1024]⟩
abbrev S1x128 : Shape := ⟨2, ![1, 128]⟩
abbrev S_ : Shape := ⟨0, ![]⟩
abbrev S128x1 : Shape := ⟨2, ![128, 1]⟩
abbrev S1x1024 : Shape := ⟨2, ![1, 1024]⟩
abbrev S1024x1024 : Shape := ⟨2, ![1024, 1024]⟩
abbrev S1024x1x128 : Shape := ⟨3, ![1024, 1, 128]⟩
abbrev S1x1024x128 : Shape := ⟨3, ![1, 1024, 128]⟩
abbrev S1024x1024x128 : Shape := ⟨3, ![1024, 1024, 128]⟩

abbrev nBuf : Space → Nat
  | .hbm => 130
  | .vmem => 0
  | .smem => 0
  | _ => 0

abbrev hbmTy0_0 (i : Nat) : BufTy := match i % 128 with
  | 0 => ⟨S1024x1, .f32⟩
  | 1 => ⟨S1024x1, .f32⟩
  | 2 => ⟨S1024x128, .f32⟩
  | 3 => ⟨S1024, .i32⟩
  | 4 => ⟨S1x128, .f32⟩
  | 5 => ⟨S1x128, .f32⟩
  | 6 => ⟨S_, .f32⟩
  | 7 => ⟨S_, .f32⟩
  | 8 => ⟨S_, .f32⟩
  | 9 => ⟨S1024x128, .f32⟩
  | 10 => ⟨S_, .f32⟩
  | 11 => ⟨S1024, .f32⟩
  | 12 => ⟨S1024, .f32⟩
  | 13 => ⟨S1024, .f32⟩
  | 14 => ⟨S1024, .f32⟩
  | 15 => ⟨S1024x1, .f32⟩
  | 16 => ⟨S128x1, .f32⟩
  | 17 => ⟨S1024x1, .f32⟩
  | 18 => ⟨S1024x1, .f32⟩
  | 19 => ⟨S1024x1, .f32⟩
  | 20 => ⟨S1024x1, .f32⟩
  | 21 => ⟨S_, .f32⟩
  | 22 => ⟨S1024x1, .f32⟩
  | 23 => ⟨S1024x1, .f32⟩
  | 24 => ⟨S1024x1, .f32⟩
  | 25 => ⟨S1024x1, .f32⟩
  | 26 => ⟨S_, .f32⟩
  | 27 => ⟨S1024x1, .f32⟩
  | 28 => ⟨S1024x1, .f32⟩
  | 29 => ⟨S1024x1, .f32⟩
  | 30 => ⟨S_, .f32⟩
  | 31 => ⟨S1024x1, .f32⟩
  | 32 => ⟨S1024x1, .f32⟩
  | 33 => ⟨S1024x1, .f32⟩
  | 34 => ⟨S1024x1, .f32⟩
  | 35 => ⟨S1024x1, .f32⟩
  | 36 => ⟨S1024x128, .f32⟩
  | 37 => ⟨S_, .f32⟩
  | 38 => ⟨S1024, .f32⟩
  | 39 => ⟨S1024x1, .f32⟩
  | 40 => ⟨S1024x1, .f32⟩
  | 41 => ⟨S_, .f32⟩
  | 42 => ⟨S1024x1, .f32⟩
  | 43 => ⟨S1024x1, .f32⟩
  | 44 => ⟨S1024x128, .f32⟩
  | 45 => ⟨S1024x128, .f32⟩
  | 46 => ⟨S1024, .i32⟩
  | 47 => ⟨S1024x1, .i32⟩
  | 48 => ⟨S1x1024, .i32⟩
  | 49 => ⟨S1024x1024, .i32⟩
  | 50 => ⟨S1024x1024, .i32⟩
  | 51 => ⟨S1024x1024, .i1⟩
  | 52 => ⟨S1024, .f32⟩
  | 53 => ⟨S1024x1, .i32⟩
  | 54 => ⟨S1x1024, .i32⟩
  | 55 => ⟨S1024x1024, .i32⟩
  | 56 => ⟨S1024x1024, .i32⟩
  | 57 => ⟨S1024x1024, .i1⟩
  | 58 => ⟨S1024x1, .f32⟩
  | 59 => ⟨S1x1024, .f32⟩
  | 60 => ⟨S1024x1024, .f32⟩
  | 61 => ⟨S1024x1024, .f32⟩
  | 62 => ⟨S1024x1024, .i1⟩
  | 63 => ⟨S1024x1024, .i1⟩
  | 64 => ⟨S1024x1024, .i1⟩
  | 65 => ⟨S1024x1024, .i1⟩
  | 66 => ⟨S1024x1024, .i1⟩
  | 67 => ⟨S1024x1024, .i1⟩
  | 68 => ⟨S1024x1024, .i1⟩
  | 69 => ⟨S1024x1x128, .f32⟩
  | 70 => ⟨S1x1024x128, .f32⟩
  | 71 => ⟨S1024x1024x128, .f32⟩
  | 72 => ⟨S1024x1024x128, .f32⟩
  | 73 => ⟨S1024x1024x128, .f32⟩
  | 74 => ⟨S1024x1024x128, .f32⟩
  | 75 => ⟨S_, .f32⟩
  | 76 => ⟨S1024x1024, .f32⟩
  | 77 => ⟨S1024x1024, .f32⟩
  | 78 => ⟨S1024x1024, .f32⟩
  | 79 => ⟨S1024x1024, .f32⟩
  | 80 => ⟨S_, .f32⟩
  | 81 => ⟨S_, .f32⟩
  | 82 => ⟨S_, .f32⟩
  | 83 => ⟨S_, .f32⟩
  | 84 => ⟨S_, .f32⟩
  | 85 => ⟨S_, .i1⟩
  | 86 => ⟨S1024x1024, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .i1⟩
  | 97 => ⟨S_, .f32⟩
  | 98 => ⟨S1024x1024, .f32⟩
  | 99 => ⟨S1024x1024, .f32⟩
  | 100 => ⟨S_, .f32⟩
  | 101 => ⟨S1024x1024, .f32⟩
  | 102 => ⟨S1024x1024, .f32⟩
  | 103 => ⟨S1024x1024, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S1024x1, .f32⟩
  | 115 => ⟨S1024x1, .f32⟩
  | 116 => ⟨S1024x1, .f32⟩
  | 117 => ⟨S1024x1, .f32⟩
  | 118 => ⟨S1024x1, .f32⟩
  | 119 => ⟨S1024x1, .f32⟩
  | 120 => ⟨S1024x1, .f32⟩
  | 121 => ⟨S1024x1, .f32⟩
  | 122 => ⟨S1024x1, .f32⟩
  | 123 => ⟨S_, .f32⟩
  | 124 => ⟨S_, .f32⟩
  | 125 => ⟨S_, .f32⟩
  | 126 => ⟨S_, .f32⟩
  | 127 => ⟨S_, .f32⟩
  | _ => ⟨S1024x1, .f32⟩

abbrev hbmTy0_1 (i : Nat) : BufTy := match i % 128 with
  | 0 => ⟨S_, .f32⟩
  | 1 => ⟨S_, .f32⟩
  | _ => ⟨S1024x1, .f32⟩

abbrev hbmTy (i : Nat) : BufTy := match i / 128 with
  | 0 => hbmTy0_0 i
  | 1 => hbmTy0_1 i
  | _ => ⟨S1024x1, .f32⟩

abbrev bufTy : (tb : Table) → Fin (tcTables nBuf tb) → BufTy
  | .hbm, ⟨i, _⟩ => hbmTy i
  | _, _ => ⟨S1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v0 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call2_v0 : Ref sig .tc := ⟨.hbm, 36, rfl⟩
abbrev main_call2_cst : Ref sig .tc := ⟨.hbm, 37, rfl⟩
abbrev main_call2_v1 : Ref sig .tc := ⟨.hbm, 38, rfl⟩
abbrev main_call2_v2 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call3_v0 : Ref sig .tc := ⟨.hbm, 74, rfl⟩
abbrev main_call3_cst : Ref sig .tc := ⟨.hbm, 75, rfl⟩
abbrev main_call3_v1 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_3 : Ref sig .tc := ⟨.hbm, 80, rfl⟩
abbrev main_v58 : Ref sig .tc := ⟨.hbm, 81, rfl⟩
abbrev main_cst_4 : Ref sig .tc := ⟨.hbm, 82, rfl⟩
abbrev main_v59 : Ref sig .tc := ⟨.hbm, 83, rfl⟩
abbrev main_cst_5 : Ref sig .tc := ⟨.hbm, 84, rfl⟩
abbrev main_v60 : Ref sig .tc := ⟨.hbm, 85, rfl⟩
abbrev main_v61 : Ref sig .tc := ⟨.hbm, 86, rfl⟩
abbrev main_cst_6 : Ref sig .tc := ⟨.hbm, 87, rfl⟩
abbrev main_v62 : Ref sig .tc := ⟨.hbm, 88, rfl⟩
abbrev main_cst_7 : Ref sig .tc := ⟨.hbm, 89, rfl⟩
abbrev main_v63 : Ref sig .tc := ⟨.hbm, 90, rfl⟩
abbrev main_v64 : Ref sig .tc := ⟨.hbm, 91, rfl⟩
abbrev main_cst_8 : Ref sig .tc := ⟨.hbm, 92, rfl⟩
abbrev main_call4_v0 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_cst_13 : Ref sig .tc := ⟨.hbm, 106, rfl⟩
abbrev main_v73 : Ref sig .tc := ⟨.hbm, 107, rfl⟩
abbrev main_v74 : Ref sig .tc := ⟨.hbm, 108, rfl⟩
abbrev main_cst_14 : Ref sig .tc := ⟨.hbm, 109, rfl⟩
abbrev main_call5_v0 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_cst_17 : Ref sig .tc := ⟨.hbm, 125, rfl⟩
abbrev main_v87 : Ref sig .tc := ⟨.hbm, 126, rfl⟩
abbrev main_cst_18 : Ref sig .tc := ⟨.hbm, 127, rfl⟩
abbrev main_v88 : Ref sig .tc := ⟨.hbm, 128, rfl⟩
abbrev main_v89 : Ref sig .tc := ⟨.hbm, 129, rfl⟩

abbrev nD : Nat := 1
abbrev τ : Topo := Topo.v7x

variable {F : FTy → Type} [FloatOps F]
-- ==== Proof.KernelRun.lean ====
/-
  The run of the idealized kernel, read: the result is the one block that the kernel's body computes from the argument
  arrays, its one element re-shaped to a scalar, and the arguments end unchanged.
-/
module

public import proofs.«01_k».proof.Defs
public import proofs.«01_k».proof.Proof.Gen.KernelIdeal.Frame
public import Idealize.ShloMosaic.Lib.Pipeline.Value
public import Idealize.ShloMosaic.Lib.Quiescent
public import Idealize.ShloMosaic.Lib.Claim

@[expose] public section

set_option maxRecDepth 16384

noncomputable section

namespace Cert.KernelIdeal.RunValue

open Idealize.ShloMosaic Idealize.ShloMosaic.TcCoe Idealize.SL.Sem
open Idealize.ShloMosaic.Pipeline (Dat)
open Cert.KernelIdeal Cert.KernelIdeal.Gen

variable {F : FTy → Type} [FloatOps F] [Named F]
variable (m : (ℓ : Loc nD τ sig) → Buf (Elt F) ℓ) (ρ : Dev nD → PrngReg)

/-- The masks of the pairs of the first kind (equal identity, different class), in the block of the rows of the first half,
    in the block off the diagonal and in the block of the rows of the second half. -/
def one00 (x0 : Vec F S1024x1 .f32) (x1 : Vec F S1x1024 .i32) : FVec F S512x512 .f32 :=
  k0_pay15 x0 (k0_pay2 x0) (k0_pay3 (F := F) x1) (k0_pay4 (F := F) x1)
def one01 (x0 : Vec F S1024x1 .f32) (x1 : Vec F S1x1024 .i32) : FVec F S512x512 .f32 :=
  k0_pay25 x0 (k0_pay2 x0) (k0_pay3 (F := F) x1) (k0_pay4 (F := F) x1)
def one11 (x0 : Vec F S1024x1 .f32) (x1 : Vec F S1x1024 .i32) : FVec F S512x512 .f32 :=
  k0_pay35 x0 (k0_pay2 x0) (k0_pay3 (F := F) x1) (k0_pay4 (F := F) x1)

/-- The masks of the pairs of the second kind (different identity, equal class), in the same blocks; of the third block
    the pairs that the mask leaves out. -/
def two00 (x0 : Vec F S1024x1 .f32) (x1 : Vec F S1x1024 .i32) : FVec F S512x512 .f32 :=
  k0_pay16 x0 (k0_pay2 x0) (k0_pay3 (F := F) x1) (k0_pay4 (F := F) x1)
def two01 (x0 : Vec F S1024x1 .f32) (x1 : Vec F S1x1024 .i32) : FVec F S512x512 .f32 :=
  k0_pay26 x0 (k0_pay2 x0) (k0_pay3 (F := F) x1) (k0_pay4 (F := F) x1)
def out11 (x0 : Vec F S1024x1 .f32) (x1 : Vec F S1x1024 .i32) : IVec S512x512 1 :=
  k0_pay36 x0 (k0_pay2 x0) (k0_pay3 (F := F) x1) (k0_pay4 (F := F) x1)

/-- The normalised rows, and their distances in the three blocks. -/
def rows (x2 : Vec F S1024x128 .f32) : FVec F S1024x128 .f32 := k0_pay11 x2 (k0_pay5 x2)
def dist00 (x2 : Vec F S1024x128 .f32) : FVec F S512x512 .f32 := k0_pay12 x2 (k0_pay5 x2)
def dist01 (x2 : Vec F S1024x128 .f32) : FVec F S512x512 .f32 := k0_pay22 (rows x2)
def dist11 (x2 : Vec F S1024x128 .f32) : FVec F S512x512 .f32 := k0_pay32 (rows x2)

/-- The number of pairs of the second kind, over the three blocks. -/
def count2 (x0 : Vec F S1024x1 .f32) (x1 : Vec F S1x1024 .i32) : F .f32 :=
  k0_pay38 (k0_pay19 (k0_pay18 x0 (k0_pay2 x0) (k0_pay3 (F := F) x1) (k0_pay4 (F := F) x1))) (k0_pay29 (two01 x0 x1))
    (out11 x0 x1) (Scalar.ofBits .f32 0x00000000#32)

/-- The quotient of the first kind: the sum of the terms over their number, 0 without a term. -/
def part1 (x0 : Vec F S1024x1 .f32) (x1 : Vec F S1x1024 .i32) (x2 : Vec F S1024x128 .f32) : F .f32 :=
  k0_pay39 (k0_pay17 x0 (k0_pay2 x0) (k0_pay3 (F := F) x1) (k0_pay4 (F := F) x1)) (k0_pay20 (dist00 x2) (one00 x0 x1))
    (k0_pay28 (k0_pay27 x0 (k0_pay2 x0) (k0_pay3 (F := F) x1) (k0_pay4 (F := F) x1))) (k0_pay30 (dist01 x2) (one01 x0 x1))
    (dist11 x2) (one11 x0 x1)

/-- The quotient of the second kind, whatever their number. -/
def ratio2 (x0 : Vec F S1024x1 .f32) (x1 : Vec F S1x1024 .i32) (x2 : Vec F S1024x128 .f32) : F .f32 :=
  k0_pay40 (k0_pay19 (k0_pay18 x0 (k0_pay2 x0) (k0_pay3 (F := F) x1) (k0_pay4 (F := F) x1)))
    (k0_pay21 (dist00 x2) (two00 x0 x1)) (k0_pay29 (two01 x0 x1)) (k0_pay31 (dist01 x2) (two01 x0 x1)) (dist11 x2)
    (out11 x0 x1) (Scalar.ofBits .f32 0x00000000#32)

/-- What the kernel's body stores, from the mean cross entropy `s`, the classes, the identities and the rows. -/
def store (s : F .f32) (x0 : Vec F S1024x1 .f32) (x1 : Vec F S1x1024 .i32) (x2 : Vec F S1024x128 .f32) : FVec F S1x1 .f32 :=
  k0_pay1 s (part1 x0 x1 x2) (Scalar.cmpf .ogt (count2 x0 x1) (Scalar.ofBits .f32 0x00000000#32)) (ratio2 x0 x1 x2)

/-- The mean of the binary cross entropy over the rows. -/
def entropy (x0 : Vec F S1024x1 .f32) (x2 : Vec F S1024x128 .f32) (x3 : Vec F S1x128 .f32) : F .f32 :=
  k0_pay10 (k0_pay7 x2 x3 x0) (k0_pay8 x2 x3 x0) (k0_pay9 (F := F))

/-- What the kernel's body stores, from the classes, the identities, the rows and the weights. -/
def body (x0 : Vec F S1024x1 .f32) (x1 : Vec F S1x1024 .i32) (x2 : Vec F S1024x128 .f32) (x3 : Vec F S1x128 .f32) :
    FVec F S1x1 .f32 := store (entropy x0 x2 x3) x0 x1 x2

theorem hz : (![0, 0] : Fin 2 → Nat) = fun _ => 0 := funext fun a => by fin_cases a <;> rfl

/-- The staging buffer of the result ends at what the body stores: its one store covers it, its loads read whole
    arrays. -/
theorem out_eq (x0 : Vec F S1024x1 .f32) (x1 : Vec F S1x1024 .i32) (x2 : Vec F S1024x128 .f32) (x3 : Vec F S1x128 .f32) :
    out0_4 x0 x1 x2 x3 = body x0 x1 x2 x3 := by
  unfold_out out0_4
  unfold body store entropy count2 part1 ratio2 one00 one01 one11 two00 two01 out11 dist00 dist01 dist11 rows
  rw [View.canon_unit_zero hz, View.ld_unit_zero hz, View.ld_unit_zero hz, View.ld_unit_zero hz, View.ld_unit_zero hz]

/-- The one element that the kernel computes from the memory of device `c`, in a block of one row and one column. -/
abbrev block (c : Dev nD) : Buf (Elt F) ((c : Thread nD τ).loc main_v1) :=
  body (m ((c : Thread nD τ).loc main_arg1))
    (shapeCast S1x1024 (m ((c : Thread nD τ).loc main_arg3)) shapeCasts_S1024_S1x1024)
    (m ((c : Thread nD τ).loc main_arg2)) (m ((c : Thread nD τ).loc main_arg4))

/-- The identities reach the kernel as one row. -/
theorem V_main_v0 (c : Dev nD) :
    V m c main_v0 = shapeCast S1x1024 (m ((c : Thread nD τ).loc main_arg3)) shapeCasts_S1024_S1x1024 := by
  show StableHlo.after [StableHlo.reshape main_arg3 main_v0 (rfl : (.i32 : EltTy) = .i32) shapeCasts_S1024_S1x1024]
    (fun b => m (c, b)) (Proc.devRef .tc main_v0) = _
  rw [StableHlo.after_cons, StableHlo.after_nil, StableHlo.reshape_result]
  rfl

/-- Every window is its whole array: an index of the block is the same index of the array. -/
theorem emb0 (t : Fin cfg0.N) (j : S1024x1.Idx) : ((cfg0.win 0).blk t).view.emb j = j := by
  funext a; apply Fin.ext
  match a with
  | ⟨0, _⟩ => show 0 * 1024 + 1 * (j 0).val = (j 0).val; omega
  | ⟨1, _⟩ => show 0 * 1 + 1 * (j 1).val = (j 1).val; omega

theorem emb1 (t : Fin cfg0.N) (j : S1x1024.Idx) : ((cfg0.win 1).blk t).view.emb j = j := by
  funext a; apply Fin.ext
  match a with
  | ⟨0, _⟩ => show 0 * 1 + 1 * (j 0).val = (j 0).val; omega
  | ⟨1, _⟩ => show 0 * 1024 + 1 * (j 1).val = (j 1).val; omega

theorem emb2 (t : Fin cfg0.N) (j : S1024x128.Idx) : ((cfg0.win 2).blk t).view.emb j = j := by
  funext a; apply Fin.ext
  match a with
  | ⟨0, _⟩ => show 0 * 1024 + 1 * (j 0).val = (j 0).val; omega
  | ⟨1, _⟩ => show 0 * 128 + 1 * (j 1).val = (j 1).val; omega

theorem emb3 (t : Fin cfg0.N) (j : S1x128.Idx) : ((cfg0.win 3).blk t).view.emb j = j := by
  funext a; apply Fin.ext
  match a with
  | ⟨0, _⟩ => show 0 * 1 + 1 * (j 0).val = (j 0).val; omega
  | ⟨1, _⟩ => show 0 * 128 + 1 * (j 1).val = (j 1).val; omega

theorem emb4 (t : Fin cfg0.N) (j : S1x1.Idx) : ((cfg0.win 4).blk t).view.emb j = j := by
  funext a; apply Fin.ext
  match a with
  | ⟨0, _⟩ => show 0 * 1 + 1 * (j 0).val = (j 0).val; omega
  | ⟨1, _⟩ => show 0 * 1 + 1 * (j 1).val = (j 1).val; omega

/-- So what the body reads through each input window is the argument array. -/
theorem iblk0 (c : Dev nD) (t : Fin cfg0.N) : iblk m c 0 t = m ((c : Thread nD τ).loc main_arg1) := by
  rw [← V_main_arg1 m c]
  funext j; show V m c main_arg1 (((cfg0.win 0).blk t).view.emb j) = V m c main_arg1 j; rw [emb0]

theorem iblk1 (c : Dev nD) (t : Fin cfg0.N) :
    iblk m c 1 t = shapeCast S1x1024 (m ((c : Thread nD τ).loc main_arg3)) shapeCasts_S1024_S1x1024 := by
  rw [← V_main_v0 m c]
  funext j; show V m c main_v0 (((cfg0.win 1).blk t).view.emb j) = V m c main_v0 j; rw [emb1]

theorem iblk2 (c : Dev nD) (t : Fin cfg0.N) : iblk m c 2 t = m ((c : Thread nD τ).loc main_arg2) := by
  rw [← V_main_arg2 m c]
  funext j; show V m c main_arg2 (((cfg0.win 2).blk t).view.emb j) = V m c main_arg2 j; rw [emb2]

theorem iblk3 (c : Dev nD) (t : Fin cfg0.N) : iblk m c 3 t = m ((c : Thread nD τ).loc main_arg4) := by
  rw [← V_main_arg4 m c]
  funext j; show V m c main_arg4 (((cfg0.win 3).blk t).view.emb j) = V m c main_arg4 j; rw [emb3]

/-- What the one point writes back is the whole of the block. -/
theorem flushed_eq (c : Dev nD) (t : Fin cfg0.N) :
    (dats m 0 c).flushed 4 t = ((cfg0.win 4).blk t).view.read (Elt F) (block m c) := by
  show (cfg0.win 4).cut (grid0.coords t) ((dats m 0 c).after 4 t) = _
  rw [after0_4, iblk0, iblk1, iblk2, iblk3, out_eq]
  funext j
  show block m c j = block m c (((cfg0.win 4).blk t).view.emb j)
  rw [emb4]

/-- The one point's block covers the result array. -/
theorem cover (i : S1x1.Idx) :
    ∃ t : Fin cfg0.N, (cfg0.win 4).flush t = true ∧ i ∈ ((cfg0.win 4).blk t).view.set :=
  ⟨t0_0, flush0_4 _, by have h := ((cfg0.win 4).blk t0_0).view.emb_mem_set i; rwa [emb4] at h⟩

/-- So the kernel's result array ends holding the block. -/
theorem final (c : Dev nD) : (dats m 0 c).arrAt 4 cfg0.N = block m c :=
  (dats m 0 c).arrAt_eq_of_cover 4 (block m c) (fun t _ => flushed_eq m c t) cover

/-- The scalar result: the block's one element, re-shaped. -/
abbrev result (c : Dev nD) : Buf (Elt F) ((c : Thread nD τ).loc main_v2) :=
  shapeCast S_ (block m c) shapeCasts_S1x1_S_

/-- The line after the kernel re-shapes its result array to the scalar result. -/
theorem tail_eq (c : Dev nD) :
    Pipeline.afterTail₀ cfgs (dats m) 0 (V0 m) [hostOps1] c main_v2 = result m c := by
  unfold Pipeline.afterTail₀
  simp only [List.flatten_cons, List.flatten_nil, List.append_nil, StableHlo.after_cons, StableHlo.after_nil]
  rw [StableHlo.reshape_result]
  have h := Pipeline.withArrays_arr spec0 winFacts0.arr_inj c (V0 m c) (fun w => (dats m 0 c).arrAt w cfg0.N) 4
  funext j
  exact congrFun (congrArg (fun X : Vec F S1x1 .f32 => shapeCast S_ X shapeCasts_S1x1_S_) (h.trans (final m c))) j

/-- The run, read: the result is the re-shaped block, and the arguments end unchanged. -/
theorem run : θ_run defs (onTc (τ := τ) (main (F := F))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h.1 c).2 main_v2 (Pipeline.mem_restRefs_of main_v2 (by decide) (by decide))).trans (tail_eq m c), h.2 c⟩)
    (θ_run_and (run_main m ρ) (unchanged m ρ))

end Cert.KernelIdeal.RunValue

end
-- ==== Proof.HalfRun.lean ====
/-
  The run of the idealized kernel that takes the cosine and the sine of the margin itself, read: the result is the one block that the kernel's body computes from the argument
  arrays, its one element re-shaped to a scalar, and the arguments end unchanged.
-/
module

public import proofs.«01_k».proof.Defs
public import proofs.«01_k».proof.Proof.Gen.KernelHalfIdeal.Frame
public import proofs.«01_k».proof.Proof.KernelRun
public import Idealize.ShloMosaic.Lib.Pipeline.Value
public import Idealize.ShloMosaic.Lib.Quiescent
public import Idealize.ShloMosaic.Lib.Claim

@[expose] public section

set_option maxRecDepth 16384

noncomputable section

namespace Cert.KernelHalfIdeal.RunValue

open Idealize.ShloMosaic Idealize.ShloMosaic.TcCoe Idealize.SL.Sem
open Idealize.ShloMosaic.Pipeline (Dat)
open Cert.KernelHalfIdeal Cert.KernelHalfIdeal.Gen

variable {F : FTy → Type} [FloatOps F]
variable (m : (ℓ : Loc nD τ sig) → Buf (Elt F) ℓ) (ρ : Dev nD → PrngReg)

/-- The mean of the binary cross entropy over the rows. -/
def entropy (x0 : Vec F S1024x1 .f32) (x2 : Vec F S1024x128 .f32) (x3 : Vec F S1x128 .f32) : F .f32 :=
  k0_pay10 (k0_pay7 x2 x3 x0) (k0_pay8 x2 x3 x0) (k0_pay9 (F := F))

/-- What the kernel's body stores, from the classes, the identities, the rows and the weights: what the other kernel
    stores, but for the cross entropy. -/
def body (x0 : Vec F S1024x1 .f32) (x1 : Vec F S1x1024 .i32) (x2 : Vec F S1024x128 .f32) (x3 : Vec F S1x128 .f32) :
    FVec F S1x1 .f32 := Cert.KernelIdeal.RunValue.store (entropy x0 x2 x3) x0 x1 x2

theorem hz : (![0, 0] : Fin 2 → Nat) = fun _ => 0 := funext fun a => by fin_cases a <;> rfl

/-- The staging buffer of the result ends at what the body stores: its one store covers it, its loads read whole
    arrays. -/
theorem out_eq (x0 : Vec F S1024x1 .f32) (x1 : Vec F S1x1024 .i32) (x2 : Vec F S1024x128 .f32) (x3 : Vec F S1x128 .f32) :
    out0_4 x0 x1 x2 x3 = body x0 x1 x2 x3 := by
  unfold_out out0_4
  rw [View.canon_unit_zero hz, View.ld_unit_zero hz, View.ld_unit_zero hz, View.ld_unit_zero hz, View.ld_unit_zero hz]
  rfl

/-- The one element that the kernel computes from the memory of device `c`, in a block of one row and one column. -/
abbrev block (c : Dev nD) : Buf (Elt F) ((c : Thread nD τ).loc main_v1) :=
  body (m ((c : Thread nD τ).loc main_arg1))
    (shapeCast S1x1024 (m ((c : Thread nD τ).loc main_arg3)) shapeCasts_S1024_S1x1024)
    (m ((c : Thread nD τ).loc main_arg2)) (m ((c : Thread nD τ).loc main_arg4))

/-- The identities reach the kernel as one row. -/
theorem V_main_v0 (c : Dev nD) :
    V m c main_v0 = shapeCast S1x1024 (m ((c : Thread nD τ).loc main_arg3)) shapeCasts_S1024_S1x1024 := by
  show StableHlo.after [StableHlo.reshape main_arg3 main_v0 (rfl : (.i32 : EltTy) = .i32) shapeCasts_S1024_S1x1024]
    (fun b => m (c, b)) (Proc.devRef .tc main_v0) = _
  rw [StableHlo.after_cons, StableHlo.after_nil, StableHlo.reshape_result]
  rfl

/-- Every window is its whole array: an index of the block is the same index of the array. -/
theorem emb0 (t : Fin cfg0.N) (j : S1024x1.Idx) : ((cfg0.win 0).blk t).view.emb j = j := by
  funext a; apply Fin.ext
  match a with
  | ⟨0, _⟩ => show 0 * 1024 + 1 * (j 0).val = (j 0).val; omega
  | ⟨1, _⟩ => show 0 * 1 + 1 * (j 1).val = (j 1).val; omega

theorem emb1 (t : Fin cfg0.N) (j : S1x1024.Idx) : ((cfg0.win 1).blk t).view.emb j = j := by
  funext a; apply Fin.ext
  match a with
  | ⟨0, _⟩ => show 0 * 1 + 1 * (j 0).val = (j 0).val; omega
  | ⟨1, _⟩ => show 0 * 1024 + 1 * (j 1).val = (j 1).val; omega

theorem emb2 (t : Fin cfg0.N) (j : S1024x128.Idx) : ((cfg0.win 2).blk t).view.emb j = j := by
  funext a; apply Fin.ext
  match a with
  | ⟨0, _⟩ => show 0 * 1024 + 1 * (j 0).val = (j 0).val; omega
  | ⟨1, _⟩ => show 0 * 128 + 1 * (j 1).val = (j 1).val; omega

theorem emb3 (t : Fin cfg0.N) (j : S1x128.Idx) : ((cfg0.win 3).blk t).view.emb j = j := by
  funext a; apply Fin.ext
  match a with
  | ⟨0, _⟩ => show 0 * 1 + 1 * (j 0).val = (j 0).val; omega
  | ⟨1, _⟩ => show 0 * 128 + 1 * (j 1).val = (j 1).val; omega

theorem emb4 (t : Fin cfg0.N) (j : S1x1.Idx) : ((cfg0.win 4).blk t).view.emb j = j := by
  funext a; apply Fin.ext
  match a with
  | ⟨0, _⟩ => show 0 * 1 + 1 * (j 0).val = (j 0).val; omega
  | ⟨1, _⟩ => show 0 * 1 + 1 * (j 1).val = (j 1).val; omega

/-- So what the body reads through each input window is the argument array. -/
theorem iblk0 (c : Dev nD) (t : Fin cfg0.N) : iblk m c 0 t = m ((c : Thread nD τ).loc main_arg1) := by
  rw [← V_main_arg1 m c]
  funext j; show V m c main_arg1 (((cfg0.win 0).blk t).view.emb j) = V m c main_arg1 j; rw [emb0]

theorem iblk1 (c : Dev nD) (t : Fin cfg0.N) :
    iblk m c 1 t = shapeCast S1x1024 (m ((c : Thread nD τ).loc main_arg3)) shapeCasts_S1024_S1x1024 := by
  rw [← V_main_v0 m c]
  funext j; show V m c main_v0 (((cfg0.win 1).blk t).view.emb j) = V m c main_v0 j; rw [emb1]

theorem iblk2 (c : Dev nD) (t : Fin cfg0.N) : iblk m c 2 t = m ((c : Thread nD τ).loc main_arg2) := by
  rw [← V_main_arg2 m c]
  funext j; show V m c main_arg2 (((cfg0.win 2).blk t).view.emb j) = V m c main_arg2 j; rw [emb2]

theorem iblk3 (c : Dev nD) (t : Fin cfg0.N) : iblk m c 3 t = m ((c : Thread nD τ).loc main_arg4) := by
  rw [← V_main_arg4 m c]
  funext j; show V m c main_arg4 (((cfg0.win 3).blk t).view.emb j) = V m c main_arg4 j; rw [emb3]

/-- What the one point writes back is the whole of the block. -/
theorem flushed_eq (c : Dev nD) (t : Fin cfg0.N) :
    (dats m 0 c).flushed 4 t = ((cfg0.win 4).blk t).view.read (Elt F) (block m c) := by
  show (cfg0.win 4).cut (grid0.coords t) ((dats m 0 c).after 4 t) = _
  rw [after0_4, iblk0, iblk1, iblk2, iblk3, out_eq]
  funext j
  show block m c j = block m c (((cfg0.win 4).blk t).view.emb j)
  rw [emb4]

/-- The one point's block covers the result array. -/
theorem cover (i : S1x1.Idx) :
    ∃ t : Fin cfg0.N, (cfg0.win 4).flush t = true ∧ i ∈ ((cfg0.win 4).blk t).view.set :=
  ⟨t0_0, flush0_4 _, by have h := ((cfg0.win 4).blk t0_0).view.emb_mem_set i; rwa [emb4] at h⟩

/-- So the kernel's result array ends holding the block. -/
theorem final (c : Dev nD) : (dats m 0 c).arrAt 4 cfg0.N = block m c :=
  (dats m 0 c).arrAt_eq_of_cover 4 (block m c) (fun t _ => flushed_eq m c t) cover

/-- The scalar result: the block's one element, re-shaped. -/
abbrev result (c : Dev nD) : Buf (Elt F) ((c : Thread nD τ).loc main_v2) :=
  shapeCast S_ (block m c) shapeCasts_S1x1_S_

/-- The line after the kernel re-shapes its result array to the scalar result. -/
theorem tail_eq (c : Dev nD) :
    Pipeline.afterTail₀ cfgs (dats m) 0 (V0 m) [hostOps1] c main_v2 = result m c := by
  unfold Pipeline.afterTail₀
  simp only [List.flatten_cons, List.flatten_nil, List.append_nil, StableHlo.after_cons, StableHlo.after_nil]
  rw [StableHlo.reshape_result]
  have h := Pipeline.withArrays_arr spec0 winFacts0.arr_inj c (V0 m c) (fun w => (dats m 0 c).arrAt w cfg0.N) 4
  funext j
  exact congrFun (congrArg (fun X : Vec F S1x1 .f32 => shapeCast S_ X shapeCasts_S1x1_S_) (h.trans (final m c))) j

/-- The run, read: the result is the re-shaped block, and the arguments end unchanged. -/
theorem run : θ_run defs (onTc (τ := τ) (main (F := F))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h.1 c).2 main_v2 (Pipeline.mem_restRefs_of main_v2 (by decide) (by decide))).trans (tail_eq m c), h.2 c⟩)
    (θ_run_and (run_main m ρ) (unchanged m ρ))

end Cert.KernelHalfIdeal.RunValue

end
-- ==== Proof.RefStages.lean ====
/-
  The reference's result, as the run composes it, cut into named stages: the logits, their mean cross entropy, the masks of
  the compared pairs, the distances, and the two quotients.
-/
module

public import proofs.«01_k».proof.Defs
public import proofs.«01_k».proof.Proof.Gen.ReferenceIdeal.Run

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen Cert.ReferenceIdeal.Value

variable {F : FTy → Type} [FloatOps F]
variable (x1 : FVec F S1024x1 .f32) (x2 : FVec F S1024x128 .f32) (x3 : IVec S1024 32) (x4 : FVec F S1x128 .f32)
  (μ : FVec F S_ .f32)

/-- The float zero that every sum starts from. -/
abbrev zero : FVec F S_ .f32 := constant S_ .f32 0x00000000#32

/-- The squared norms of the rows. -/
def sqV : FVec F S1024 .f32 := Host.reduceAdd (mulf x2 x2) zero reducesTo_S1024x128_S1024_d1 h_S_

/-- The norm of the weights times the norms of the rows, one column. -/
def scaleV : FVec F S1024x1 .f32 :=
  broadcastInDim S1024x1 ![0] bcast_S1024_S1024x1_0
    (mulf (broadcastInDim S1024 ![] bcast_S_S1024 (Host.sqrt (Host.reduceAdd (mulf x4 x4) zero reducesTo_S1x128_S_d0_1 h_S_)))
      (Host.sqrt (sqV x2)))

/-- The angles of the rows with the weights. -/
def thetaV : FVec F S1024x1 .f32 :=
  Host.acos (Host.divf (Host.dotGeneral dot_S1024x128_S128x1_S1024x1_1_0_0_1_n_n none x2
    (transpose S128x1 [1, 0] x4 transposes_S1x128_S128x1_1_0)) (scaleV x2 x4))

/-- The logits, at the margin `μ`. -/
def logitV : FVec F S1024x1 .f32 :=
  addf
    (mulf (mulf x1 (scaleV x2 x4))
      (Host.cos (addf (thetaV x2 x4) (broadcastInDim S1024x1 ![] bcast_S_S1024x1 μ))))
    (mulf (mulf (subf (broadcastInDim S1024x1 ![] bcast_S_S1024x1 (constant S_ .f32 0x3F800000#32)) x1) (scaleV x2 x4))
      (Host.cos (subf (thetaV x2 x4) (broadcastInDim S1024x1 ![] bcast_S_S1024x1 μ))))

/-- The mean of the cross entropy of the logits `y`. -/
def entropyV (y : FVec F S1024x1 .f32) : FVec F S_ .f32 :=
  Host.divf
    (Host.reduceAdd
      (addf (subf (maximumf y (broadcastInDim S1024x1 ![] bcast_S_S1024x1 zero)) (mulf y x1))
        (Host.log1p (Host.exp (Host.negf (Host.absf y)))))
      zero reducesTo_S1024x1_S_d0_1 h_S_)
    (constant S_ .f32 0x44800000#32)

/-- The mask of the pairs `i < j`. -/
def before : IVec S1024x1024 1 :=
  cmpi .slt
    (broadcastInDim S1024x1024 ![0, 1] bcast_S1024x1_S1024x1024_0_1
      (broadcastInDim S1024x1 ![0] bcast_S1024_S1024x1_0 (iotaInDim S1024 32 0)))
    (broadcastInDim S1024x1024 ![0, 1] bcast_S1x1024_S1024x1024_0_1
      (broadcastInDim S1x1024 ![1] bcast_S1024_S1x1024_1 (iotaInDim S1024 32 0)))

/-- The mask of the pairs of equal identity. -/
def sameId : IVec S1024x1024 1 :=
  cmpi .eq
    (broadcastInDim S1024x1024 ![0, 1] bcast_S1024x1_S1024x1024_0_1 (broadcastInDim S1024x1 ![0] bcast_S1024_S1024x1_0 x3))
    (broadcastInDim S1024x1024 ![0, 1] bcast_S1x1024_S1024x1024_0_1 (broadcastInDim S1x1024 ![1] bcast_S1024_S1x1024_1 x3))

/-- The mask of the pairs of equal class. -/
def sameClass : IVec S1024x1024 1 :=
  cmpf .oeq
    (broadcastInDim S1024x1024 ![0, 1] bcast_S1024x1_S1024x1024_0_1
      (broadcastInDim S1024x1 ![0] bcast_S1024_S1024x1_0 (shapeCast S1024 x1 shapeCasts_S1024x1_S1024)))
    (broadcastInDim S1024x1024 ![0, 1] bcast_S1x1024_S1024x1024_0_1
      (broadcastInDim S1x1024 ![1] bcast_S1024_S1x1024_1 (shapeCast S1024 x1 shapeCasts_S1024x1_S1024)))

/-- The pairs of the first kind and of the second kind, as ones and zeros. -/
def oneV : FVec F S1024x1024 .f32 := uitofp .f32 (andi (andi before (sameId x3)) (noti (sameClass x1)))
def twoV : FVec F S1024x1024 .f32 := uitofp .f32 (andi (andi before (noti (sameId x3))) (sameClass x1))

/-- The normalised rows. -/
def unitV : FVec F S1024x128 .f32 :=
  Host.divf x2 (broadcastInDim S1024x128 ![0, 1] bcast_S1024x1_S1024x128_0_1
    (maximumf (Host.sqrt (broadcastInDim S1024x1 ![0] bcast_S1024_S1024x1_0 (sqV x2)))
      (broadcastInDim S1024x1 ![] bcast_S_S1024x1 (constant S_ .f32 0x2B8CBCCC#32))))

/-- The differences of the rows `u`. -/
def difV (u : FVec F S1024x128 .f32) : FVec F S1024x1024x128 .f32 :=
  subf
    (broadcastInDim S1024x1024x128 ![0, 1, 2] bcast_S1024x1x128_S1024x1024x128_0_1_2
      (broadcastInDim S1024x1x128 ![0, 2] bcast_S1024x128_S1024x1x128_0_2 u))
    (broadcastInDim S1024x1024x128 ![0, 1, 2] bcast_S1x1024x128_S1024x1024x128_0_1_2
      (broadcastInDim S1x1024x128 ![1, 2] bcast_S1024x128_S1x1024x128_1_2 u))

/-- The distances of the rows `u`. -/
def distV (u : FVec F S1024x128 .f32) : FVec F S1024x1024 .f32 :=
  Host.sqrt (Host.reduceAdd (mulf (difV u) (difV u)) zero reducesTo_S1024x1024x128_S1024x1024_d2 h_S_)

/-- The terms of the second kind before their mask: how far the distances `d` are below the margin. -/
def hingeV (d : FVec F S1024x1024 .f32) : FVec F S1024x1024 .f32 :=
  maximumf (broadcastInDim S1024x1024 ![] bcast_S_S1024x1024 zero)
    (subf (broadcastInDim S1024x1024 ![] bcast_S_S1024x1024 (constant S_ .f32 0x3F000000#32)) d)

/-- The sum of the terms `t` over the pairs of the mask `n`, over the number of these pairs. -/
def quotV (n t : FVec F S1024x1024 .f32) : FVec F S_ .f32 :=
  select (cmpf .ogt (Host.reduceAdd n zero reducesTo_S1024x1024_S_d0_1 h_S_) zero)
    (Host.divf (Host.reduceAdd (mulf n t) zero reducesTo_S1024x1024_S_d0_1 h_S_)
      (maximumf (Host.reduceAdd n zero reducesTo_S1024x1024_S_d0_1 h_S_) (constant S_ .f32 0x3F800000#32)))
    zero

/-- The loss, at the margin `μ` of the angles. -/
def lossV : FVec F S_ .f32 :=
  addf (entropyV x1 (logitV x1 x2 x4 μ))
    (mulf (constant S_ .f32 0x3DCCCCCD#32)
      (addf (quotV (oneV x1 x3) (distV (unitV x2))) (quotV (twoV x1 x3) (hingeV (distV (unitV x2))))))

variable (m : (ℓ : Loc nD τ sig) → Buf (Elt F) ℓ) (c : Dev nD)

/-- The result that the run states is the loss of the arguments, at the margin 0.5. -/
theorem result_eq : res_out0 m c = lossV (F := F) (m ((c.tc : Thread nD τ).loc main_arg1)) (m ((c.tc : Thread nD τ).loc main_arg2))
    (m ((c.tc : Thread nD τ).loc main_arg3)) (m ((c.tc : Thread nD τ).loc main_arg4))
    (constant S_ .f32 0x3F000000#32) := by
  show res_main_v89 m c = _
  unfold res_main_v89 lossV quotV hingeV distV difV unitV oneV twoV sameClass sameId before entropyV logitV thetaV scaleV sqV
  rfl

end Cert.ReferenceIdeal.Stages

end
-- ==== Proof.ArcStages.lean ====
/-
  The result of the reference whose margin is the arc cosine of the kernel's cosine: the same loss, at that margin.
-/
module

public import proofs.«01_k».proof.Proof.Gen.ReferenceArcIdeal.Run
public import proofs.«01_k».proof.Proof.RefStages

@[expose] public section

set_option maxRecDepth 16384

noncomputable section

namespace Cert.ReferenceArcIdeal.Stages

open Idealize.ShloMosaic Idealize.ShloMosaic.TcCoe Idealize.SL.Sem
open Cert.ReferenceArcIdeal Cert.ReferenceArcIdeal.Gen Cert.ReferenceArcIdeal.Value
open Cert.ReferenceIdeal.Stages (lossV quotV hingeV distV difV unitV oneV twoV sameClass sameId before entropyV logitV thetaV
  scaleV sqV)

variable {F : FTy → Type} [FloatOps F]
variable (m : (ℓ : Loc nD τ sig) → Buf (Elt F) ℓ) (c : Dev nD)

/-- The result that the run states is the loss of the arguments, at that margin. -/
theorem result_eq : res_out0 m c = lossV (F := F) (m ((c.tc : Thread nD τ).loc main_arg1)) (m ((c.tc : Thread nD τ).loc main_arg2))
    (m ((c.tc : Thread nD τ).loc main_arg3)) (m ((c.tc : Thread nD τ).loc main_arg4))
    (Host.acos (constant S_ .f32 0x3F60A940#32)) := by
  show res_main_v92 m c = _
  unfold res_main_v92 lossV quotV hingeV distV difV unitV oneV twoV sameClass sameId before entropyV logitV thetaV scaleV sqV
  rfl

end Cert.ReferenceArcIdeal.Stages

end
-- ==== Proof.Consts.lean ====
/-
  The float constants of the programs as real numbers, and finite sums and maxima of real numbers read as extended reals.
-/
module

public import Idealize.ShloMosaic.Lib.Pointwise
public import Idealize.ShloMosaic.Lib.IdealHost

@[expose] public section

noncomputable section

namespace Cert.Loss

open Idealize.ShloMosaic

/-- The guard of the squared norm, the float nearest to 1e-24. -/
def guard2 : ℝ := 10141205 * 2⁻¹ ^ 103
/-- The guard of the squared distance, the float nearest to 1e-30. -/
def guardD : ℝ := 10633824 * 2⁻¹ ^ 123
/-- The guard of the norm, the float nearest to 1e-12. -/
def guard1 : ℝ := 9223372 * 2⁻¹ ^ 63
/-- The weight of the pairwise part, the float nearest to 0.1. -/
def weight : ℝ := 13421773 * 2⁻¹ ^ 27

/-- The cosine of the margin that the kernel holds, the float nearest to cos 0.5, and the sine that goes with it. -/
def cosM : ℝ := 230053 / 262144
def sinM : ℝ := √(15795093927 / 68719476736)

theorem cos_arc : Real.cos (Real.arccos cosM) = cosM :=
  Real.cos_arccos (by unfold cosM; norm_num) (by unfold cosM; norm_num)
theorem sin_arc : Real.sin (Real.arccos cosM) = sinM := by
  rw [Real.sin_arccos]; unfold cosM sinM; norm_num

theorem guard2_pos : 0 < guard2 := by unfold guard2; positivity
theorem guardD_pos : 0 < guardD := by unfold guardD; positivity
theorem guard1_pos : 0 < guard1 := by unfold guard1; positivity

/-- A squared norm above its guard has its root above the guard of the norm. -/
theorem guard1_sq : guard1 * guard1 ≤ guard2 := by unfold guard1 guard2; norm_num

theorem bits_guard2 : Ideal.ofBits .f32 0x179ABE15#32 = (guard2 : EReal) := by
  unfold guard2; simp [Ideal.ofBits, Ideal.ieee, -EReal.coe_mul]
theorem bits_guardD : Ideal.ofBits .f32 0x0DA24260#32 = (guardD : EReal) := by
  unfold guardD; simp [Ideal.ofBits, Ideal.ieee, -EReal.coe_mul]
theorem bits_guard1 : Ideal.ofBits .f32 0x2B8CBCCC#32 = (guard1 : EReal) := by
  unfold guard1; simp [Ideal.ofBits, Ideal.ieee, -EReal.coe_mul]
theorem bits_weight : Ideal.ofBits .f32 0x3DCCCCCD#32 = (weight : EReal) := by
  unfold weight; simp [Ideal.ofBits, Ideal.ieee, -EReal.coe_mul]
theorem bits_cosM : Ideal.ofBits .f32 0x3F60A940#32 = (cosM : EReal) := by
  unfold cosM; simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_inv1024 : Ideal.ofBits .f32 0x3A800000#32 = ((1 / 1024 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_top : Ideal.ofBits .f32 0x7F800000#32 = ⊤ := by
  simp [Ideal.ofBits, Ideal.ieee]

/-- The one and the zero of the extended reals are those of the reals. -/
theorem one_coe : (1 : EReal) = ((1 : ℝ) : EReal) := rfl
theorem zero_coe : (0 : EReal) = ((0 : ℝ) : EReal) := rfl

/-- A finite sum of reals is the same sum in the extended reals. -/
theorem coe_sum {ι : Type} [Fintype ι] (f : ι → ℝ) : ∑ i, (f i : EReal) = ((∑ i, f i : ℝ) : EReal) := by
  classical
  induction (Finset.univ : Finset ι) using Finset.induction_on with
  | empty => rfl
  | insert a s ha h => rw [Finset.sum_insert ha, Finset.sum_insert ha, EReal.coe_add, h]

/-- The larger of two reals is the same in the extended reals. -/
theorem coe_max (a b : ℝ) : max (a : EReal) (b : EReal) = ((max a b : ℝ) : EReal) :=
  (EReal.coe_strictMono.monotone.map_max).symm

/-- The absolute value of a real, written as the larger of it and its opposite. -/
theorem coe_abs (a : ℝ) : max (a : EReal) (-(a : EReal)) = ((|a| : ℝ) : EReal) := by
  rw [← EReal.coe_neg, coe_max]; rfl

/-- The root of a real that is not negative. -/
theorem sqrt_of_nonneg {a : ℝ} (h : 0 ≤ a) : Ideal.sqrt (a : EReal) = ((Real.sqrt a : ℝ) : EReal) := by
  rw [Ideal.sqrt_coe, if_neg (not_lt.mpr h)]

/-- The reciprocal root of a positive real. -/
theorem rsqrt_of_pos {a : ℝ} (h : 0 < a) : Ideal.rsqrt (a : EReal) = (((Real.sqrt a)⁻¹ : ℝ) : EReal) := by
  rw [Ideal.rsqrt_coe, if_neg (not_lt.mpr h.le), if_neg h.ne']

/-- A quotient of reals whose divisor is not zero. -/
theorem div_of_ne {a b : ℝ} (h : b ≠ 0) : Ideal.div (a : EReal) (b : EReal) = ((a / b : ℝ) : EReal) := by
  rw [Ideal.div_coe h, ← EReal.coe_mul, mul_one_div]

/-- The logarithm of one plus an exponential. -/
theorem log1p_exp (a : ℝ) : Ideal.log1p (Ideal.exp (a : EReal)) = ((Real.log (1 + Real.exp a) : ℝ) : EReal) := by
  have h : 0 < 1 + Real.exp a := by positivity
  unfold Ideal.log1p
  rw [Ideal.exp_coe, one_coe, ← EReal.coe_add, Ideal.log_coe, if_neg (not_le.mpr h)]

/-- The comparison of two row numbers. -/
theorem before_iff (i j : Fin 1024) :
    IntOp.cmpi CmpIPredicate.slt (BitVec.ofNat 32 i.val) (BitVec.ofNat 32 j.val) = BitVec.ofBool (decide (i < j)) := by
  have hi := i.isLt
  have hj := j.isLt
  have h : (BitVec.ofNat 32 i.val).slt (BitVec.ofNat 32 j.val) = decide (i < j) := by
    unfold BitVec.slt
    rw [BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    simp
  show BitVec.ofBool _ = _
  rw [h]

end Cert.Loss

end
-- ==== Proof.Loss.lean ====
/-
  The loss as a function of real numbers, in the two forms in which the programs compute it, and the equation between them.
  Rows `e`, weights `w`, classes `c`, identities `id`.
-/
module

public import proofs.«01_k».proof.Proof.Consts

@[expose] public section

noncomputable section

namespace Cert.Loss

variable (e : Fin 1024 → Fin 128 → ℝ) (w : Fin 128 → ℝ) (c : Fin 1024 → ℝ) (id : Fin 1024 → BitVec 32)

/-- The squared norm of a row. -/
def sq (i : Fin 1024) : ℝ := ∑ k, e i k * e i k
/-- The product of a row with the weights. -/
def dotw (i : Fin 1024) : ℝ := ∑ k, e i k * w k
/-- The squared norm of the weights. -/
def sqw : ℝ := ∑ k, w k * w k

/-- 1 on the pairs of equal identity and different class, 0 on the others. -/
def one (i j : Fin 1024) : ℝ := if id i = id j ∧ c i ≠ c j then 1 else 0
/-- 1 on the pairs of different identity and equal class, 0 on the others. -/
def two (i j : Fin 1024) : ℝ := if id i ≠ id j ∧ c i = c j then 1 else 0

/-- The sum of a pair matrix over the pairs `i < j`. -/
def half (X : Fin 1024 → Fin 1024 → ℝ) : ℝ := ∑ i, ∑ j, if i < j then X i j else 0

/-- Row `i` of the first half of the batch. -/
def lo (i : Fin 512) : Fin 1024 := ⟨i.val, by omega⟩
/-- Row `i` of the second half of the batch. -/
def hi (i : Fin 512) : Fin 1024 := ⟨512 + i.val, by omega⟩

/-- The sum over the diagonal blocks and twice that over the block off the diagonal, as the kernel takes it. -/
def blocks (X : Fin 1024 → Fin 1024 → ℝ) : ℝ :=
  ∑ i, ∑ j, X (lo i) (lo j) + ∑ i, ∑ j, X (hi i) (hi j) + 2 * ∑ i, ∑ j, X (lo i) (hi j)

/-- A sum of terms over their number, 0 if there is none. -/
def quot (t n : ℝ) : ℝ := if 0 < n then t / max n 1 else 0

/-- A sum over the batch is the sum over its two halves. -/
theorem sum_halves (f : Fin 1024 → ℝ) : ∑ i, f i = ∑ i, f (lo i) + ∑ i, f (hi i) :=
  Fin.sum_univ_add (a := 512) (b := 512) f

/-- The three blocks of a symmetric matrix hold all of its elements. -/
theorem blocks_eq_sum (X : Fin 1024 → Fin 1024 → ℝ) (hs : ∀ i j, X i j = X j i) : blocks X = ∑ i, ∑ j, X i j := by
  have h : ∑ i, ∑ j, X (hi i) (lo j) = ∑ i, ∑ j, X (lo i) (hi j) := by
    rw [Finset.sum_comm]
    exact Finset.sum_congr rfl fun i _ => Finset.sum_congr rfl fun j _ => hs _ _
  rw [sum_halves, Finset.sum_congr rfl fun i _ => sum_halves (X (lo i)),
    Finset.sum_congr rfl fun i _ => sum_halves (X (hi i)), Finset.sum_add_distrib, Finset.sum_add_distrib, h]
  unfold blocks
  ring

/-- Each pair of a symmetric matrix with a zero diagonal is counted twice. -/
theorem sum_eq_half (X : Fin 1024 → Fin 1024 → ℝ) (hs : ∀ i j, X i j = X j i) (hd : ∀ i, X i i = 0) :
    ∑ i, ∑ j, X i j = 2 * half X := by
  have h : ∀ i j, X i j = (if i < j then X i j else 0) + (if j < i then X j i else 0) := by
    intro i j
    rcases lt_trichotomy i j with h | h | h
    · rw [if_pos h, if_neg (lt_asymm h), add_zero]
    · subst h; rw [if_neg (lt_irrefl _), hd, add_zero]
    · rw [if_neg (lt_asymm h), if_pos h, zero_add, hs]
  have h2 : ∑ i, ∑ j, (if j < i then X j i else 0) = half X := by rw [Finset.sum_comm]; rfl
  rw [Finset.sum_congr rfl fun i _ => Finset.sum_congr rfl fun j _ => h i j]
  simp only [Finset.sum_add_distrib]
  rw [h2]
  show half X + half X = _
  ring

/-- So the kernel's three blocks are twice the sum over the pairs `i < j`. -/
theorem blocks_eq (X : Fin 1024 → Fin 1024 → ℝ) (hs : ∀ i j, X i j = X j i) (hd : ∀ i, X i i = 0) :
    blocks X = 2 * half X := (blocks_eq_sum X hs).trans (sum_eq_half X hs hd)

/-- The sum over the pairs of a matrix of zeros and ones is 0 or at least 1. -/
theorem half_count (X : Fin 1024 → Fin 1024 → ℝ) (h : ∀ i j, X i j = 0 ∨ X i j = 1) : half X = 0 ∨ 1 ≤ half X := by
  have hn : ∀ i j, 0 ≤ (if i < j then X i j else 0) := by
    intro i j; split
    · rcases h i j with h | h <;> rw [h]; exact zero_le_one
    · exact le_rfl
  by_cases hz : ∀ i j, (if i < j then X i j else 0) = 0
  · left; unfold half; simp only [hz, Finset.sum_const_zero]
  · right
    push Not at hz
    obtain ⟨i, j, hij⟩ := hz
    have h1 : (if i < j then X i j else 0) = 1 := by
      split at hij
      · next hlt => rw [if_pos hlt]; exact (h i j).resolve_left hij
      · exact absurd rfl hij
    calc (1 : ℝ) = if i < j then X i j else 0 := h1.symm
      _ ≤ ∑ j, (if i < j then X i j else 0) := Finset.single_le_sum (fun j _ => hn i j) (Finset.mem_univ j)
      _ ≤ half X := Finset.single_le_sum (f := fun i => ∑ j, (if i < j then X i j else 0))
          (fun i _ => Finset.sum_nonneg fun j _ => hn i j) (Finset.mem_univ i)

/-- Counting each pair twice, in the sum and in the number of terms, leaves the quotient as it is. -/
theorem quot_twice (t n : ℝ) (h : n = 0 ∨ 1 ≤ n) : quot (2 * t) (2 * n) = quot t n := by
  unfold quot
  rcases h with h | h
  · subst h; simp
  · rw [if_pos (by linarith), if_pos (by linarith), max_eq_left (by linarith), max_eq_left h]
    rw [mul_div_mul_left _ _ two_ne_zero]

theorem one_symm (i j : Fin 1024) : one c id i j = one c id j i := by
  unfold one; simp only [ne_comm, eq_comm]
theorem two_symm (i j : Fin 1024) : two c id i j = two c id j i := by
  unfold two; simp only [ne_comm, eq_comm]
theorem one_diag (i : Fin 1024) : one c id i i = 0 := by unfold one; simp
theorem two_diag (i : Fin 1024) : two c id i i = 0 := by unfold two; simp
theorem one_01 (i j : Fin 1024) : one c id i j = 0 ∨ one c id i j = 1 := by unfold one; split <;> simp
theorem two_01 (i j : Fin 1024) : two c id i j = 0 ∨ two c id i j = 1 := by unfold two; split <;> simp

/-! ## The rows, normalised, and their distances -/

/-- A row times the reciprocal root of its guarded squared norm: the kernel's normalised row. -/
def unitK (i : Fin 1024) (k : Fin 128) : ℝ := e i k * (√(max (sq e i) guard2))⁻¹
/-- A row over its guarded norm: the reference's normalised row. -/
def unitR (i : Fin 1024) (k : Fin 128) : ℝ := e i k / max (√(sq e i)) guard1

/-- The guarded squared distance that the kernel takes from the product of two normalised rows. -/
def gapK (i j : Fin 1024) : ℝ := max (2 - 2 * ∑ k, unitK e i k * unitK e j k) guardD
/-- The kernel's distance: the guarded squared distance times its reciprocal root. -/
def distK (i j : Fin 1024) : ℝ := gapK e i j * (√(gapK e i j))⁻¹
/-- The reference's distance: the norm of the difference of two normalised rows. -/
def distR (i j : Fin 1024) : ℝ := √(∑ k, (unitR e i k - unitR e j k) * (unitR e i k - unitR e j k))

/-- The squared distance of two rows, each over its norm. -/
def gap (i j : Fin 1024) : ℝ :=
  ∑ k, (e i k / √(sq e i) - e j k / √(sq e j)) * (e i k / √(sq e i) - e j k / √(sq e j))

/-- What the precondition says of two compared rows. -/
def Apart (i j : Fin 1024) : Prop := guard2 ≤ sq e i ∧ guard2 ≤ sq e j ∧ guardD ≤ gap e i j

theorem sq_nonneg (i : Fin 1024) : 0 ≤ sq e i := Finset.sum_nonneg fun _ _ => mul_self_nonneg _
theorem sqw_nonneg : 0 ≤ sqw w := Finset.sum_nonneg fun _ _ => mul_self_nonneg _
theorem gapK_pos (i j : Fin 1024) : 0 < gapK e i j := lt_of_lt_of_le guardD_pos (le_max_right _ _)
theorem unit_pos (i : Fin 1024) : 0 < max (sq e i) guard2 := lt_of_lt_of_le guard2_pos (le_max_right _ _)

/-- A row that reaches the guard is normalised alike by both programs. -/
theorem unitK_eq {i : Fin 1024} (h : guard2 ≤ sq e i) (k : Fin 128) : unitK e i k = e i k / √(sq e i) := by
  unfold unitK; rw [max_eq_left h, div_eq_mul_inv]
theorem unitR_eq {i : Fin 1024} (h : guard2 ≤ sq e i) (k : Fin 128) : unitR e i k = e i k / √(sq e i) := by
  unfold unitR
  rw [max_eq_left]
  exact Real.le_sqrt_of_sq_le (by rw [pow_two]; exact guard1_sq.trans h)

/-- The normalised row has norm one. -/
theorem unit_sq {i : Fin 1024} (h : guard2 ≤ sq e i) : ∑ k, (e i k / √(sq e i)) * (e i k / √(sq e i)) = 1 := by
  have hp : 0 < sq e i := lt_of_lt_of_le guard2_pos h
  have : ∀ k, (e i k / √(sq e i)) * (e i k / √(sq e i)) = e i k * e i k / sq e i := by
    intro k; rw [div_mul_div_comm, Real.mul_self_sqrt hp.le]
  simp only [this]
  rw [← Finset.sum_div]
  exact div_self hp.ne'

/-- On a compared pair the two distances agree. -/
theorem dist_eq {i j : Fin 1024} (h : Apart e i j) : distK e i j = distR e i j := by
  obtain ⟨h1, h2, h3⟩ := h
  have hg : 2 - 2 * ∑ k, unitK e i k * unitK e j k = gap e i j := by
    have : gap e i j = ∑ k, ((e i k / √(sq e i)) * (e i k / √(sq e i)) + (e j k / √(sq e j)) * (e j k / √(sq e j))
        - 2 * (unitK e i k * unitK e j k)) := by
      unfold gap
      refine Finset.sum_congr rfl fun k _ => ?_
      rw [unitK_eq e h1, unitK_eq e h2]; ring
    rw [this, Finset.sum_sub_distrib, Finset.sum_add_distrib, unit_sq e h1, unit_sq e h2, ← Finset.mul_sum]
    ring
  have hq : gapK e i j = gap e i j := by unfold gapK; rw [hg, max_eq_left h3]
  have hr : distR e i j = √(gap e i j) := by
    unfold distR gap
    simp only [unitR_eq e h1, unitR_eq e h2]
  have hp : 0 < gap e i j := lt_of_lt_of_le guardD_pos h3
  unfold distK
  rw [hq, hr, ← div_eq_mul_inv, Real.div_sqrt]

theorem distK_symm (i j : Fin 1024) : distK e i j = distK e j i := by
  have : gapK e i j = gapK e j i := by unfold gapK; simp only [mul_comm]
  unfold distK; rw [this]

/-! ## The pairwise part -/

/-- The kernel's terms of the two kinds. -/
def term1K (i j : Fin 1024) : ℝ := one c id i j * distK e i j
def term2K (i j : Fin 1024) : ℝ := two c id i j * max (1 / 2 - distK e i j) 0
/-- The reference's terms of the two kinds. -/
def term1R (i j : Fin 1024) : ℝ := one c id i j * distR e i j
def term2R (i j : Fin 1024) : ℝ := two c id i j * max 0 (1 / 2 - distR e i j)

/-- The pairwise part as the kernel takes it, by blocks. -/
def pairsK : ℝ :=
  quot (blocks (term1K e c id)) (blocks (one c id)) + quot (blocks (term2K e c id)) (blocks (two c id))
/-- The pairwise part as the reference takes it, over the pairs `i < j`. -/
def pairsR : ℝ :=
  quot (half (term1R e c id)) (half (one c id)) + quot (half (term2R e c id)) (half (two c id))

/-- Where every compared pair is apart, the two pairwise parts agree. -/
theorem pairs_eq (h : ∀ i j, i < j → (id i = id j ∧ c i ≠ c j) ∨ (id i ≠ id j ∧ c i = c j) → Apart e i j) :
    pairsK e c id = pairsR e c id := by
  have h1 : half (term1K e c id) = half (term1R e c id) := by
    refine Finset.sum_congr rfl fun i _ => Finset.sum_congr rfl fun j _ => ?_
    by_cases hij : i < j
    · rw [if_pos hij, if_pos hij]
      unfold term1K term1R one
      split
      · next hc => rw [dist_eq e (h i j hij (Or.inl hc))]
      · rw [zero_mul, zero_mul]
    · rw [if_neg hij, if_neg hij]
  have h2 : half (term2K e c id) = half (term2R e c id) := by
    refine Finset.sum_congr rfl fun i _ => Finset.sum_congr rfl fun j _ => ?_
    by_cases hij : i < j
    · rw [if_pos hij, if_pos hij]
      unfold term2K term2R two
      split
      · next hc => rw [dist_eq e (h i j hij (Or.inr hc)), max_comm]
      · rw [zero_mul, zero_mul]
    · rw [if_neg hij, if_neg hij]
  unfold pairsK pairsR
  rw [blocks_eq (term1K e c id) (fun i j => by unfold term1K; rw [one_symm, distK_symm])
      (fun i => by unfold term1K; rw [one_diag, zero_mul]),
    blocks_eq (term2K e c id) (fun i j => by unfold term2K; rw [two_symm, distK_symm])
      (fun i => by unfold term2K; rw [two_diag, zero_mul]),
    blocks_eq (one c id) (one_symm c id) (one_diag c id), blocks_eq (two c id) (two_symm c id) (two_diag c id),
    quot_twice _ _ (half_count _ (one_01 c id)), quot_twice _ _ (half_count _ (two_01 c id)), h1, h2]

/-! ## The logits -/

/-- A row's logit as the kernel takes it: the cosines of angle plus and minus the margin by angle addition, the sine by
    Pythagoras, both scaled by the two norms. `C` and `S` are the margin's cosine and sine. -/
def logitK (C S : ℝ) (i : Fin 1024) : ℝ :=
  C * dotw e w i + S * (1 - 2 * c i) * √(max (sqw w * sq e i - dotw e w i * dotw e w i) 0)

/-- The product of the norms of the weights and of a row. -/
def scale (i : Fin 1024) : ℝ := √(sqw w) * √(sq e i)

/-- A row's logit with the cosines of angle plus and minus the margin still to be taken: `p` and `q` are those. -/
def logitR (p q : ℝ) (i : Fin 1024) : ℝ := c i * scale e w i * p + (1 - c i) * scale e w i * q

theorem scale_sq (i : Fin 1024) : scale e w i * scale e w i = sqw w * sq e i := by
  unfold scale
  rw [mul_mul_mul_comm, Real.mul_self_sqrt (sqw_nonneg w), Real.mul_self_sqrt (sq_nonneg e i)]

theorem scale_nonneg (i : Fin 1024) : 0 ≤ scale e w i := mul_nonneg (Real.sqrt_nonneg _) (Real.sqrt_nonneg _)

/-- The inequality of Cauchy and Schwarz for a row and the weights. -/
theorem abs_dotw_le (i : Fin 1024) : |dotw e w i| ≤ scale e w i := by
  apply abs_le_of_sq_le_sq _ (scale_nonneg e w i)
  rw [pow_two, pow_two, scale_sq]
  have h := Finset.sum_mul_sq_le_sq_mul_sq Finset.univ (e i) w
  simp only [pow_two] at h
  unfold dotw sqw sq
  linarith

/-- Where the scale is not zero, the logit with the cosines of the margin taken from the arc cosine is the kernel's. -/
theorem logit_eq {i : Fin 1024} (h : scale e w i ≠ 0) (m : ℝ) :
    logitR e w c (Real.cos (Real.arccos (dotw e w i / scale e w i) + m))
        (Real.cos (Real.arccos (dotw e w i / scale e w i) - m)) i
      = logitK e w c (Real.cos m) (Real.sin m) i := by
  have hp : 0 < scale e w i := lt_of_le_of_ne (scale_nonneg e w i) (Ne.symm h)
  have hb := abs_le.mp (abs_dotw_le e w i)
  have hc : Real.cos (Real.arccos (dotw e w i / scale e w i)) = dotw e w i / scale e w i := by
    apply Real.cos_arccos
    · rw [le_div_iff₀ hp]; linarith [hb.1]
    · rw [div_le_one hp]; exact hb.2
  have hs : scale e w i * Real.sin (Real.arccos (dotw e w i / scale e w i))
      = √(max (sqw w * sq e i - dotw e w i * dotw e w i) 0) := by
    rw [Real.sin_arccos, ← scale_sq]
    have hd : dotw e w i * dotw e w i ≤ scale e w i * scale e w i := by
      rw [← abs_mul_abs_self (dotw e w i)]
      exact mul_self_le_mul_self (abs_nonneg _) (abs_dotw_le e w i)
    rw [max_eq_left (by linarith)]
    have : scale e w i * scale e w i - dotw e w i * dotw e w i
        = scale e w i * scale e w i * (1 - (dotw e w i / scale e w i) ^ 2) := by
      field_simp
    rw [this, Real.sqrt_mul (mul_self_nonneg _), Real.sqrt_mul_self hp.le]
  unfold logitR logitK
  rw [Real.cos_add, Real.cos_sub, hc, ← hs]
  have hx : scale e w i * (dotw e w i / scale e w i) = dotw e w i := by field_simp
  linear_combination Real.cos m * hx

/-- Where the scale is zero, the kernel's logit is zero. -/
theorem logit_zero {i : Fin 1024} (h : scale e w i = 0) (C S : ℝ) : logitK e w c C S i = 0 := by
  have hd : dotw e w i = 0 := by
    have := abs_dotw_le e w i
    rw [h] at this
    exact abs_eq_zero.mp (le_antisymm this (abs_nonneg _))
  have hz : sqw w * sq e i = 0 := by rw [← scale_sq, h, mul_zero]
  unfold logitK
  rw [hd, hz]
  simp

/-! ## The loss -/

/-- The cross entropy of one row with logit `x` and class `y`. -/
def soft (x y : ℝ) : ℝ := max x 0 - x * y + Real.log (1 + Real.exp (-|x|))

/-- The mean of the cross entropy over the rows with the logits `x`. -/
def entropy (x : Fin 1024 → ℝ) : ℝ := (∑ i, soft (x i) (c i)) / 1024

end Cert.Loss

end
-- ==== Proof.KernelRead.lean ====
/-
  What the kernel's body stores, at the extended reals, where the classes, the rows and the weights are real numbers: the
  mean cross entropy of the logits plus the weighted pairwise part, as real numbers.
-/
module

public import proofs.«01_k».proof.Proof.KernelRun
public import proofs.«01_k».proof.Proof.Loss

@[expose] public section

set_option maxRecDepth 16384

noncomputable section

namespace Cert.KernelIdeal.Read

open Idealize.ShloMosaic Idealize.SL.Sem
open Cert.KernelIdeal Cert.KernelIdeal.Gen Cert.KernelIdeal.RunValue
open Cert.Loss (one_coe zero_coe coe_sum coe_max coe_abs sqrt_of_nonneg rsqrt_of_pos div_of_ne log1p_exp guard2 guardD
  weight lo hi cosM sinM)

variable (x0 : FVec Ideal S1024x1 .f32) (x1 : IVec S1x1024 32) (x2 : FVec Ideal S1024x128 .f32)
  (x3 : FVec Ideal S1x128 .f32)
variable (e : Fin 1024 → Fin 128 → ℝ) (w : Fin 128 → ℝ) (c : Fin 1024 → ℝ)

/-- The identities, from the row that the kernel reads. -/
abbrev ids (i : Fin 1024) : BitVec 32 := x1 (ix2 0 i)

/-! ## The logits and the cross entropy -/

/-- The squared norms of the rows. -/
theorem sq_read (h2 : ∀ i k, x2 (ix2 i k) = (e i k : EReal)) (i : Fin 1024) (z : Fin 1) :
    k0_pay5 (F := Ideal) x2 (ix2 i z) = (Loss.sq e i : EReal) := by
  pointwise [k0_pay5]
  simp only [h2, ← EReal.coe_mul, coe_sum]
  rfl

/-- The sine that the kernel holds by its name. -/
theorem named_sin : Named.named (F := Ideal) Cert.KernelIdeal.κ "sinm" (φ := .f32) 0x3EF57744#32 = (sinM : EReal) :=
  IdealRules.named_const.ideal_named_scalar _ _ _ _ rfl

/-- The logits. -/
theorem logit_read (h0 : ∀ i z, x0 (ix2 i z) = (c i : EReal)) (h2 : ∀ i k, x2 (ix2 i k) = (e i k : EReal))
    (h3 : ∀ z k, x3 (ix2 z k) = (w k : EReal)) (z : Fin 1) (i : Fin 1024) :
    k0_pay6 (F := Ideal) x2 x3 x0 (ix2 z i) = (Loss.logitK e w c cosM sinM i : EReal) := by
  pointwise [k0_pay6, k0_pay2]
  simp only [sq_read x2 e h2, h0, h2, h3, Loss.bits_cosM, named_sin, Loss.bits_two, ← EReal.coe_mul,
    coe_sum, ← EReal.coe_sub, one_coe, zero_coe, coe_max, ← EReal.coe_add, Finset.univ_unique, Finset.sum_singleton]
  rw [sqrt_of_nonneg (le_max_right _ _), ← EReal.coe_mul, ← EReal.coe_add]
  rfl

/-- The absolute value of a real. -/
theorem absf_coe (a : ℝ) : FloatOps.absf (F := Ideal) (φ := .f32) (a : EReal) = ((|a| : ℝ) : EReal) := coe_abs a

/-- The mean of the cross entropy. -/
theorem entropy_read (h0 : ∀ i z, x0 (ix2 i z) = (c i : EReal)) (h2 : ∀ i k, x2 (ix2 i k) = (e i k : EReal))
    (h3 : ∀ z k, x3 (ix2 z k) = (w k : EReal)) :
    RunValue.entropy (F := Ideal) x0 x2 x3 = (Loss.entropy c (Loss.logitK e w c cosM sinM) : EReal) := by
  unfold RunValue.entropy
  pointwise [k0_pay10, k0_pay9, k0_pay7, k0_pay8, k0_pay2]
  simp only [logit_read x0 x2 x3 e w c h0 h2 h3, h0, Loss.bits_inv1024, one_coe, zero_coe, coe_max, absf_coe,
    ← EReal.coe_mul, ← EReal.coe_sub, log1p_exp, ← EReal.coe_add, coe_sum, Finset.univ_unique, Finset.sum_singleton]
  unfold Loss.entropy Loss.soft
  simp only [zero_sub, mul_one_div]

/-! ## The masks -/

/-- The mask of the first kind, element by element. -/
theorem mask1 (a b : BitVec 32) (p q : ℝ) :
    Scalar.select (IntOp.andi (IntOp.cmpi CmpIPredicate.eq a b) (BitVec.ofBool (decide ((p : EReal) ≠ (q : EReal)))))
      (1 : Ideal .f32) (0 : Ideal .f32) = ((if a = b ∧ p ≠ q then 1 else 0 : ℝ) : EReal) := by
  have hb : (a == b) = decide (a = b) := rfl
  by_cases h1 : a = b <;> by_cases h2 : p = q <;>
    simp [Scalar.select, IntOp.andi, IntOp.cmpi, hb, h1, h2]

/-- The mask of the second kind, element by element. -/
theorem mask2 (a b : BitVec 32) (p q : ℝ) :
    Scalar.select (IntOp.ori (IntOp.cmpi CmpIPredicate.eq a b) (BitVec.ofBool (decide ((p : EReal) ≠ (q : EReal)))))
      (0 : Ideal .f32) (1 : Ideal .f32) = ((if a ≠ b ∧ p = q then 1 else 0 : ℝ) : EReal) := by
  have hb : (a == b) = decide (a = b) := rfl
  by_cases h1 : a = b <;> by_cases h2 : p = q <;>
    simp [Scalar.select, IntOp.ori, IntOp.cmpi, hb, h1, h2]

variable (h0 : ∀ i z, x0 (ix2 i z) = (c i : EReal))
include h0

theorem one00_read (i j : Fin 512) : one00 (F := Ideal) x0 x1 (ix2 i j) = (Loss.one c (ids x1) (lo i) (lo j) : EReal) := by
  pointwise [one00, k0_pay15, k0_pay13, k0_pay14, k0_pay2, k0_pay3, k0_pay4]
  simp only [h0, mask1]
  rfl

theorem one01_read (i j : Fin 512) : one01 (F := Ideal) x0 x1 (ix2 i j) = (Loss.one c (ids x1) (lo i) (hi j) : EReal) := by
  pointwise [one01, k0_pay25, k0_pay23, k0_pay24, k0_pay2, k0_pay3, k0_pay4]
  simp only [h0, mask1]
  rfl

theorem one11_read (i j : Fin 512) : one11 (F := Ideal) x0 x1 (ix2 i j) = (Loss.one c (ids x1) (hi i) (hi j) : EReal) := by
  pointwise [one11, k0_pay35, k0_pay33, k0_pay34, k0_pay2, k0_pay3, k0_pay4]
  simp only [h0, mask1]
  rfl

theorem two00_read (i j : Fin 512) : two00 (F := Ideal) x0 x1 (ix2 i j) = (Loss.two c (ids x1) (lo i) (lo j) : EReal) := by
  pointwise [two00, k0_pay16, k0_pay13, k0_pay14, k0_pay2, k0_pay3, k0_pay4]
  simp only [h0, mask2]
  rfl

theorem two01_read (i j : Fin 512) : two01 (F := Ideal) x0 x1 (ix2 i j) = (Loss.two c (ids x1) (lo i) (hi j) : EReal) := by
  pointwise [two01, k0_pay26, k0_pay23, k0_pay24, k0_pay2, k0_pay3, k0_pay4]
  simp only [h0, mask2]
  rfl

/-- The mask of the third block, as the counts and sums read it. -/
theorem mask11_read (i j : Fin 512) :
    k0_pay37 (F := Ideal) (out11 (F := Ideal) x0 x1) (0 : EReal) (ix2 i j) = (Loss.two c (ids x1) (hi i) (hi j) : EReal) := by
  pointwise [k0_pay37, out11, k0_pay36, k0_pay33, k0_pay34, k0_pay2, k0_pay3, k0_pay4]
  simp only [h0, mask2]
  rfl

omit h0

/-! ## The distances -/

/-- The kernel's normalised rows. -/
theorem unit_read (h2 : ∀ i k, x2 (ix2 i k) = (e i k : EReal)) (i : Fin 1024) (k : Fin 128) :
    k0_pay11 (F := Ideal) x2 (k0_pay5 x2) (ix2 i k) = (Loss.unitK e i k : EReal) := by
  pointwise [k0_pay11]
  simp only [h2, sq_read x2 e h2]
  rw [Loss.bits_guard2, coe_max, rsqrt_of_pos (Loss.unit_pos e i), ← EReal.coe_mul]
  rfl

/-- A guarded squared distance times its reciprocal root, from the product of two normalised rows. -/
theorem dist_coe (i j : Fin 1024) :
    max (((2 : ℝ) : EReal) - ((2 : ℝ) : EReal) * ((∑ k, Loss.unitK e i k * Loss.unitK e j k : ℝ) : EReal)) (guardD : EReal)
        * Ideal.rsqrt (max (((2 : ℝ) : EReal) - ((2 : ℝ) : EReal) * ((∑ k, Loss.unitK e i k * Loss.unitK e j k : ℝ) : EReal))
          (guardD : EReal))
      = (Loss.distK e i j : EReal) := by
  rw [← EReal.coe_mul, ← EReal.coe_sub, coe_max]
  show (Loss.gapK e i j : EReal) * Ideal.rsqrt (Loss.gapK e i j : EReal) = _
  rw [rsqrt_of_pos (Loss.gapK_pos e i j), ← EReal.coe_mul]
  rfl

variable (h2 : ∀ i k, x2 (ix2 i k) = (e i k : EReal))
include h2

theorem dist00_read (i j : Fin 512) : dist00 (F := Ideal) x2 (ix2 i j) = (Loss.distK e (lo i) (lo j) : EReal) := by
  pointwise [dist00, k0_pay12]
  simp only [unit_read x2 e h2, Loss.bits_two, Loss.bits_guardD, ← EReal.coe_mul, coe_sum]
  exact dist_coe e (lo i) (lo j)

theorem dist01_read (i j : Fin 512) : dist01 (F := Ideal) x2 (ix2 i j) = (Loss.distK e (lo i) (hi j) : EReal) := by
  pointwise [dist01, rows, k0_pay22]
  simp only [unit_read x2 e h2, Loss.bits_two, Loss.bits_guardD, ← EReal.coe_mul, coe_sum]
  exact dist_coe e (lo i) (hi j)

theorem dist11_read (i j : Fin 512) : dist11 (F := Ideal) x2 (ix2 i j) = (Loss.distK e (hi i) (hi j) : EReal) := by
  pointwise [dist11, rows, k0_pay32]
  simp only [unit_read x2 e h2, Loss.bits_two, Loss.bits_guardD, ← EReal.coe_mul, coe_sum]
  exact dist_coe e (hi i) (hi j)

omit h2

/-! ## The sums over the blocks -/

/-- A sum over a block of real numbers. -/
theorem block_sum (f : Fin 512 → Fin 512 → ℝ) (v : Fin 512 → Fin 512 → EReal) (h : ∀ i j, v i j = (f i j : EReal)) :
    ∑ i, ∑ j, v i j = ((∑ i, ∑ j, f i j : ℝ) : EReal) := by
  simp only [h, coe_sum]

/-- The sum over the three blocks, from the sums over each. -/
theorem blocks_coe (X : Fin 1024 → Fin 1024 → ℝ) {a b d : EReal}
    (ha : a = ((∑ i, ∑ j, X (lo i) (lo j) : ℝ) : EReal)) (hb : b = ((∑ i, ∑ j, X (hi i) (hi j) : ℝ) : EReal))
    (hd : d = ((∑ i, ∑ j, X (lo i) (hi j) : ℝ) : EReal)) :
    a + b + Ideal.ofBits .f32 0x40000000#32 * d = (Loss.blocks X : EReal) := by
  rw [ha, hb, hd, Loss.bits_two, ← EReal.coe_mul, ← EReal.coe_add, ← EReal.coe_add]
  rfl

/-- A quotient of two real numbers, 0 where the number of terms is 0. -/
theorem quot_coe (t n : ℝ) :
    (if (0 : EReal) < (n : EReal) then Ideal.div (t : EReal) (max (n : EReal) 1) else 0) = (Loss.quot t n : EReal) := by
  rw [one_coe, coe_max, div_of_ne (ne_of_gt (lt_of_lt_of_le one_pos (le_max_right _ _)))]
  unfold Loss.quot
  by_cases h : 0 < n <;> simp [h]

/-- The same, from what the sum and the number are. -/
theorem quot_of {t n : ℝ} {T N : EReal} (hT : T = (t : EReal)) (hN : N = (n : EReal)) :
    (if (0 : EReal) < N then Ideal.div T (max N 1) else 0) = (Loss.quot t n : EReal) := by
  rw [hT, hN, quot_coe]

/-- A term of the second kind. -/
theorem term2_coe (a d : ℝ) :
    (a : EReal) * max (Ideal.ofBits .f32 0x3F000000#32 - (d : EReal)) 0 = ((a * max (1 / 2 - d) 0 : ℝ) : EReal) := by
  rw [Loss.bits_half, ← EReal.coe_sub, zero_coe, coe_max, ← EReal.coe_mul]

section Pairs

variable (h0 : ∀ i z, x0 (ix2 i z) = (c i : EReal)) (h2 : ∀ i k, x2 (ix2 i k) = (e i k : EReal))

include h0 in
/-- The number of pairs of the second kind, over the three blocks. -/
theorem count2_read : count2 (F := Ideal) x0 x1 = (Loss.blocks (Loss.two c (ids x1)) : EReal) := by
  unfold count2
  pointwise [k0_pay38, k0_pay19, k0_pay18, k0_pay29]
  exact blocks_coe _ (block_sum _ _ (two00_read x0 x1 c h0)) (block_sum _ _ (mask11_read x0 x1 c h0))
    (block_sum _ _ (two01_read x0 x1 c h0))

include h0 h2 in
/-- The quotient of the second kind, whatever their number. -/
theorem ratio2_read : ratio2 (F := Ideal) x0 x1 x2
    = Ideal.div (Loss.blocks (Loss.term2K e c (ids x1)) : EReal) (max (Loss.blocks (Loss.two c (ids x1)) : EReal) 1) := by
  unfold ratio2
  pointwise [k0_pay40, k0_pay38, k0_pay19, k0_pay18, k0_pay21, k0_pay29, k0_pay31]
  refine congrArg₂ (fun t n => Ideal.div t (max n 1))
    (blocks_coe _ (block_sum _ _ fun i j => ?_) (block_sum _ _ fun i j => ?_) (block_sum _ _ fun i j => ?_))
    (blocks_coe _ (block_sum _ _ (two00_read x0 x1 c h0)) (block_sum _ _ (mask11_read x0 x1 c h0))
      (block_sum _ _ (two01_read x0 x1 c h0)))
  · rw [two00_read x0 x1 c h0, dist00_read x2 e h2, term2_coe]; rfl
  · rw [mask11_read x0 x1 c h0, dist11_read x2 e h2, term2_coe]; rfl
  · rw [two01_read x0 x1 c h0, dist01_read x2 e h2, term2_coe]; rfl

include h0 h2 in
/-- The quotient of the first kind. -/
theorem part1_read : part1 (F := Ideal) x0 x1 x2
    = (Loss.quot (Loss.blocks (Loss.term1K e c (ids x1))) (Loss.blocks (Loss.one c (ids x1))) : EReal) := by
  unfold part1
  pointwise [k0_pay39, k0_pay17, k0_pay20, k0_pay28, k0_pay27, k0_pay30]
  refine quot_of (blocks_coe _ (block_sum _ _ fun i j => ?_) (block_sum _ _ fun i j => ?_) (block_sum _ _ fun i j => ?_))
    (blocks_coe _ (block_sum _ _ (one00_read x0 x1 c h0)) (block_sum _ _ (one11_read x0 x1 c h0))
      (block_sum _ _ (one01_read x0 x1 c h0)))
  · rw [one00_read x0 x1 c h0, dist00_read x2 e h2, ← EReal.coe_mul]; rfl
  · rw [one11_read x0 x1 c h0, dist11_read x2 e h2, ← EReal.coe_mul]; rfl
  · rw [one01_read x0 x1 c h0, dist01_read x2 e h2, ← EReal.coe_mul]; rfl

/-- What the kernel's body stores, whatever real number the mean cross entropy is: that plus the weighted pairwise part. -/
theorem store_read (h0 : ∀ i z, x0 (ix2 i z) = (c i : EReal)) (h2 : ∀ i k, x2 (ix2 i k) = (e i k : EReal)) (r : ℝ)
    (y z : Fin 1) :
    store (F := Ideal) (r : EReal) x0 x1 x2 (ix2 y z) = ((r + weight * Loss.pairsK e c (ids x1) : ℝ) : EReal) := by
  unfold store
  pointwise [k0_pay1]
  rw [count2_read x0 x1 c h0, ratio2_read x0 x1 x2 e c h0 h2, quot_coe, part1_read x0 x1 x2 e c h0 h2, Loss.bits_weight, ← EReal.coe_add, ← EReal.coe_mul,
    ← EReal.coe_add]
  rfl

end Pairs

/-- What the kernel's body stores: the mean cross entropy plus the weighted pairwise part. -/
theorem body_read (h0 : ∀ i z, x0 (ix2 i z) = (c i : EReal)) (h2 : ∀ i k, x2 (ix2 i k) = (e i k : EReal))
    (h3 : ∀ z k, x3 (ix2 z k) = (w k : EReal)) (y z : Fin 1) :
    body (F := Ideal) x0 x1 x2 x3 (ix2 y z)
      = ((Loss.entropy c (Loss.logitK e w c cosM sinM) + weight * Loss.pairsK e c (ids x1) : ℝ) : EReal) := by
  unfold body
  rw [entropy_read x0 x2 x3 e w c h0 h2 h3, store_read x0 x1 x2 e c h0 h2]

end Cert.KernelIdeal.Read

end
-- ==== Proof.HalfRead.lean ====
/-
  What the body of the kernel that takes the cosine and the sine itself stores, at the extended reals: its logits and their
  mean cross entropy are read here, the pairwise part is the other kernel's.
-/
module

public import proofs.«01_k».proof.Proof.HalfRun
public import proofs.«01_k».proof.Proof.KernelRead

@[expose] public section

set_option maxRecDepth 16384

noncomputable section

namespace Cert.KernelHalfIdeal.Read

open Idealize.ShloMosaic Idealize.SL.Sem
open Cert.KernelHalfIdeal Cert.KernelHalfIdeal.Gen Cert.KernelHalfIdeal.RunValue
open Cert.Loss (one_coe zero_coe coe_sum coe_max sqrt_of_nonneg log1p_exp weight)
open Cert.KernelIdeal.Read (ids absf_coe store_read)

variable (x0 : FVec Ideal S1024x1 .f32) (x1 : IVec S1x1024 32) (x2 : FVec Ideal S1024x128 .f32)
  (x3 : FVec Ideal S1x128 .f32)
variable (e : Fin 1024 → Fin 128 → ℝ) (w : Fin 128 → ℝ) (c : Fin 1024 → ℝ)

/-- The squared norms of the rows. -/
theorem sq_read (h2 : ∀ i k, x2 (ix2 i k) = (e i k : EReal)) (i : Fin 1024) (z : Fin 1) :
    k0_pay5 (F := Ideal) x2 (ix2 i z) = (Loss.sq e i : EReal) := Cert.KernelIdeal.Read.sq_read x2 e h2 i z

/-- The logits. -/
theorem logit_read (h0 : ∀ i z, x0 (ix2 i z) = (c i : EReal)) (h2 : ∀ i k, x2 (ix2 i k) = (e i k : EReal))
    (h3 : ∀ z k, x3 (ix2 z k) = (w k : EReal)) (z : Fin 1) (i : Fin 1024) :
    k0_pay6 (F := Ideal) x2 x3 x0 (ix2 z i)
      = (Loss.logitK e w c (Real.cos (1 / 2)) (Real.sin (1 / 2)) i : EReal) := by
  pointwise [k0_pay6, k0_pay2]
  simp only [sq_read x2 e h2, h0, h2, h3, Loss.bits_half, Loss.bits_two, Ideal.cos_coe, Ideal.sin_coe, ← EReal.coe_mul,
    coe_sum, ← EReal.coe_sub, one_coe, zero_coe, coe_max, ← EReal.coe_add, Finset.univ_unique, Finset.sum_singleton]
  rw [sqrt_of_nonneg (le_max_right _ _), ← EReal.coe_mul, ← EReal.coe_add]
  rfl

/-- The mean of the cross entropy. -/
theorem entropy_read (h0 : ∀ i z, x0 (ix2 i z) = (c i : EReal)) (h2 : ∀ i k, x2 (ix2 i k) = (e i k : EReal))
    (h3 : ∀ z k, x3 (ix2 z k) = (w k : EReal)) :
    RunValue.entropy (F := Ideal) x0 x2 x3
      = (Loss.entropy c (Loss.logitK e w c (Real.cos (1 / 2)) (Real.sin (1 / 2))) : EReal) := by
  unfold RunValue.entropy
  pointwise [k0_pay10, k0_pay9, k0_pay7, k0_pay8, k0_pay2]
  simp only [logit_read x0 x2 x3 e w c h0 h2 h3, h0, Loss.bits_inv1024, one_coe, zero_coe, coe_max, absf_coe,
    ← EReal.coe_mul, ← EReal.coe_sub, log1p_exp, ← EReal.coe_add, coe_sum, Finset.univ_unique, Finset.sum_singleton]
  unfold Loss.entropy Loss.soft
  simp only [zero_sub, mul_one_div]

/-- What the kernel's body stores: the mean cross entropy plus the weighted pairwise part. -/
theorem body_read (h0 : ∀ i z, x0 (ix2 i z) = (c i : EReal)) (h2 : ∀ i k, x2 (ix2 i k) = (e i k : EReal))
    (h3 : ∀ z k, x3 (ix2 z k) = (w k : EReal)) (y z : Fin 1) :
    body (F := Ideal) x0 x1 x2 x3 (ix2 y z)
      = ((Loss.entropy c (Loss.logitK e w c (Real.cos (1 / 2)) (Real.sin (1 / 2)))
          + weight * Loss.pairsK e c (ids x1) : ℝ) : EReal) := by
  unfold body
  rw [entropy_read x0 x2 x3 e w c h0 h2 h3, store_read x0 x1 x2 e c h0 h2]

end Cert.KernelHalfIdeal.Read

end
-- ==== Proof.RefRead.lean ====
/-
  The reference's stages, at the extended reals, where the classes, the rows and the weights are real numbers.
-/
module

public import proofs.«01_k».proof.Proof.RefStages
public import proofs.«01_k».proof.Proof.Loss

@[expose] public section

set_option maxRecDepth 16384

noncomputable section

namespace Cert.ReferenceIdeal.Read

open Idealize.ShloMosaic Idealize.SL.Sem
open Cert.ReferenceIdeal Cert.ReferenceIdeal.Gen Cert.ReferenceIdeal.Stages
open Cert.Loss (one_coe zero_coe coe_sum coe_max coe_abs sqrt_of_nonneg rsqrt_of_pos div_of_ne log1p_exp guard1 weight)

variable (x1 : FVec Ideal S1024x1 .f32) (x2 : FVec Ideal S1024x128 .f32) (x3 : IVec S1024 32) (x4 : FVec Ideal S1x128 .f32)
variable (μ : FVec Ideal S_ .f32) (a : ℝ)
variable (e : Fin 1024 → Fin 128 → ℝ) (w : Fin 128 → ℝ) (c : Fin 1024 → ℝ)

/-- The identities. -/
abbrev ids (i : Fin 1024) : BitVec 32 := x3 (ix1 i)

theorem sq_read (h2 : ∀ i k, x2 (ix2 i k) = (e i k : EReal)) (i : Fin 1024) :
    sqV (F := Ideal) x2 (ix1 i) = (Loss.sq e i : EReal) := by
  pointwise [sqV]
  simp only [h2, ← EReal.coe_mul, coe_sum]
  rfl

/-- The product of the norms. -/
theorem scale_read (h2 : ∀ i k, x2 (ix2 i k) = (e i k : EReal)) (h4 : ∀ z k, x4 (ix2 z k) = (w k : EReal)) (i : Fin 1024)
    (z : Fin 1) : scaleV (F := Ideal) x2 x4 (ix2 i z) = (Loss.scale e w i : EReal) := by
  pointwise [scaleV]
  simp only [sq_read x2 e h2, h4, ← EReal.coe_mul, coe_sum, Finset.univ_unique, Finset.sum_singleton]
  rw [sqrt_of_nonneg (Loss.sq_nonneg e i)]
  show Ideal.sqrt (Loss.sqw w : EReal) * _ = _
  rw [sqrt_of_nonneg (Loss.sqw_nonneg w), ← EReal.coe_mul]
  rfl

/-- The angle of a row whose scale is not zero. -/
theorem theta_read (h2 : ∀ i k, x2 (ix2 i k) = (e i k : EReal)) (h4 : ∀ z k, x4 (ix2 z k) = (w k : EReal)) (i : Fin 1024)
    (z : Fin 1) (hs : Loss.scale e w i ≠ 0) :
    thetaV (F := Ideal) x2 x4 (ix2 i z) = (Real.arccos (Loss.dotw e w i / Loss.scale e w i) : EReal) := by
  have hp : 0 < Loss.scale e w i := lt_of_le_of_ne (Loss.scale_nonneg e w i) (Ne.symm hs)
  have hb := abs_le.mp (Loss.abs_dotw_le e w i)
  pointwise [thetaV]
  simp only [scale_read x2 x4 e w h2 h4, h2, h4, ← EReal.coe_mul, coe_sum]
  rw [div_of_ne hs, Ideal.acos_coe]
  refine if_pos ⟨?_, ?_⟩
  · rw [le_div_iff₀ hp]; unfold Loss.dotw at hb; linarith [hb.1]
  · rw [div_le_one hp]; exact hb.2

/-- The logits, at a real margin. A row whose scale is zero has the logit zero whatever its angle reads. -/
theorem logit_read (h1 : ∀ i z, x1 (ix2 i z) = (c i : EReal)) (h2 : ∀ i k, x2 (ix2 i k) = (e i k : EReal))
    (h4 : ∀ z k, x4 (ix2 z k) = (w k : EReal)) (hμ : μ ix0 = (a : EReal)) (i : Fin 1024) (z : Fin 1) :
    logitV (F := Ideal) x1 x2 x4 μ (ix2 i z) = (Loss.logitK e w c (Real.cos a) (Real.sin a) i : EReal) := by
  pointwise [logitV]
  rw [scale_read x2 x4 e w h2 h4, h1, one_coe, ← EReal.coe_sub, ← EReal.coe_mul, ← EReal.coe_mul]
  by_cases hs : Loss.scale e w i = 0
  · rw [hs, mul_zero, mul_zero, EReal.coe_zero, zero_mul, zero_mul, Loss.logit_zero e w c hs, add_zero, EReal.coe_zero]
  · rw [theta_read x2 x4 e w h2 h4 i z hs, hμ, ← EReal.coe_add, ← EReal.coe_sub, Ideal.cos_coe, Ideal.cos_coe,
      ← EReal.coe_mul, ← EReal.coe_mul, ← EReal.coe_add, ← Loss.logit_eq e w c hs a]
    rfl

/-- The absolute value of a real. -/
theorem absf_coe (a : ℝ) : FloatOps.absf (F := Ideal) (φ := .f32) (a : EReal) = ((|a| : ℝ) : EReal) := coe_abs a

/-- The mean of the cross entropy of real logits. -/
theorem entropy_read (x : Fin 1024 → ℝ) (y : FVec Ideal S1024x1 .f32) (h1 : ∀ i z, x1 (ix2 i z) = (c i : EReal))
    (hy : ∀ i z, y (ix2 i z) = (x i : EReal)) : entropyV (F := Ideal) x1 y ix0 = (Loss.entropy c x : EReal) := by
  pointwise [entropyV]
  simp only [hy, h1, Loss.bits_1024, one_coe, zero_coe, coe_max, absf_coe, ← EReal.coe_mul, ← EReal.coe_sub,
    ← EReal.coe_neg, log1p_exp, ← EReal.coe_add, coe_sum, Finset.univ_unique, Finset.sum_singleton]
  rw [div_of_ne (by norm_num)]
  rfl

/-! ## The masks -/

/-- The pairs of the first kind and of the second kind. -/
theorem one_read (h1 : ∀ i z, x1 (ix2 i z) = (c i : EReal)) (i j : Fin 1024) :
    oneV (F := Ideal) x1 x3 (ix2 i j) = ((if i < j then Loss.one c (ids x3) i j else 0 : ℝ) : EReal) := by
  pointwise [oneV, before, sameId, sameClass]
  rw [Loss.before_iff, h1, h1]
  have hb : (x3 (ix1 i) == x3 (ix1 j)) = decide (ids x3 i = ids x3 j) := rfl
  unfold Loss.one
  by_cases h : i < j <;> by_cases ha : ids x3 i = ids x3 j <;> by_cases hc : c i = c j <;>
    simp [IntOp.andi, IntOp.cmpi, FloatOps.uitofp, hb, h, ha, hc]

theorem two_read (h1 : ∀ i z, x1 (ix2 i z) = (c i : EReal)) (i j : Fin 1024) :
    twoV (F := Ideal) x1 x3 (ix2 i j) = ((if i < j then Loss.two c (ids x3) i j else 0 : ℝ) : EReal) := by
  pointwise [twoV, before, sameId, sameClass]
  rw [Loss.before_iff, h1, h1]
  have hb : (x3 (ix1 i) == x3 (ix1 j)) = decide (ids x3 i = ids x3 j) := rfl
  unfold Loss.two
  by_cases h : i < j <;> by_cases ha : ids x3 i = ids x3 j <;> by_cases hc : c i = c j <;>
    simp [IntOp.andi, IntOp.cmpi, FloatOps.uitofp, hb, h, ha, hc]

/-! ## The distances -/

/-- The normalised rows. -/
theorem unit_read (h2 : ∀ i k, x2 (ix2 i k) = (e i k : EReal)) (i : Fin 1024) (k : Fin 128) :
    unitV (F := Ideal) x2 (ix2 i k) = (Loss.unitR e i k : EReal) := by
  pointwise [unitV]
  rw [sq_read x2 e h2, h2, sqrt_of_nonneg (Loss.sq_nonneg e i), Loss.bits_guard1, coe_max,
    div_of_ne (ne_of_gt (lt_of_lt_of_le Loss.guard1_pos (le_max_right _ _)))]
  rfl

/-- The distances of the normalised rows. -/
theorem dist_read (h2 : ∀ i k, x2 (ix2 i k) = (e i k : EReal)) (i j : Fin 1024) :
    distV (F := Ideal) (unitV x2) (ix2 i j) = (Loss.distR e i j : EReal) := by
  pointwise [distV, difV]
  simp only [unit_read x2 e h2, ← EReal.coe_sub, ← EReal.coe_mul, coe_sum]
  exact sqrt_of_nonneg (Finset.sum_nonneg fun _ _ => mul_self_nonneg _)

/-- How far the distances are below the margin. -/
theorem hinge_read (h2 : ∀ i k, x2 (ix2 i k) = (e i k : EReal)) (i j : Fin 1024) :
    hingeV (F := Ideal) (distV (unitV x2)) (ix2 i j) = ((max 0 (1 / 2 - Loss.distR e i j) : ℝ) : EReal) := by
  pointwise [hingeV]
  rw [dist_read x2 e h2, Loss.bits_half, ← EReal.coe_sub, zero_coe, coe_max]

/-! ## The quotients and the loss -/

/-- A sum of terms over the pairs `i < j` of a mask, over the number of these pairs. -/
theorem quot_read (n t : FVec Ideal S1024x1024 .f32) (N T : Fin 1024 → Fin 1024 → ℝ)
    (hn : ∀ i j, n (ix2 i j) = ((if i < j then N i j else 0 : ℝ) : EReal)) (ht : ∀ i j, t (ix2 i j) = (T i j : EReal)) :
    quotV (F := Ideal) n t ix0 = (Loss.quot (Loss.half fun i j => N i j * T i j) (Loss.half N) : EReal) := by
  pointwise [quotV]
  simp only [hn, ht, ← EReal.coe_mul, coe_sum, ite_mul, zero_mul]
  rw [one_coe, coe_max, div_of_ne (ne_of_gt (lt_of_lt_of_le one_pos (le_max_right _ _)))]
  show (if (0 : EReal) < (Loss.half N : EReal)
    then (((Loss.half fun i j => N i j * T i j) / max (Loss.half N) 1 : ℝ) : EReal) else 0) = _
  unfold Loss.quot
  by_cases h : 0 < Loss.half N
  · rw [if_pos h, if_pos (EReal.coe_pos.mpr h)]
  · rw [if_neg h, if_neg (fun h' => h (EReal.coe_pos.mp h'))]; rfl

/-- The sum of the two parts of a loss. -/
theorem sum_read (a b d : FVec Ideal S_ .f32) :
    addf (F := Ideal) a (mulf (constant S_ .f32 0x3DCCCCCD#32) (addf b d)) ix0
      = a ix0 + Ideal.ofBits .f32 0x3DCCCCCD#32 * (b ix0 + d ix0) := rfl

/-- The loss, at a real margin. -/
theorem loss_read (h1 : ∀ i z, x1 (ix2 i z) = (c i : EReal)) (h2 : ∀ i k, x2 (ix2 i k) = (e i k : EReal))
    (h4 : ∀ z k, x4 (ix2 z k) = (w k : EReal)) (hμ : μ ix0 = (a : EReal)) :
    lossV (F := Ideal) x1 x2 x3 x4 μ ix0
      = ((Loss.entropy c (Loss.logitK e w c (Real.cos a) (Real.sin a)) + weight * Loss.pairsR e c (ids x3) : ℝ) : EReal) := by
  unfold lossV
  rw [sum_read, entropy_read x1 c _ _ h1 (logit_read x1 x2 x4 μ a e w c h1 h2 h4 hμ),
    quot_read _ _ _ _ (one_read x1 x3 c h1) (dist_read x2 e h2), quot_read _ _ _ _ (two_read x1 x3 c h1) (hinge_read x2 e h2),
    Loss.bits_weight, ← EReal.coe_add, ← EReal.coe_mul, ← EReal.coe_add]
  rfl

/-! ## The two margins -/

/-- The margin 0.5. -/
theorem half_margin : constant (F := Ideal) S_ .f32 0x3F000000#32 ix0 = ((1 / 2 : ℝ) : EReal) := Loss.bits_half

/-- The margin that is the arc cosine of the kernel's cosine. -/
theorem arc_margin : Host.acos (F := Ideal) (constant S_ .f32 0x3F60A940#32) ix0 = (Real.arccos Loss.cosM : EReal) := by
  show Ideal.acos (Ideal.ofBits .f32 0x3F60A940#32) = _
  rw [Loss.bits_cosM, Ideal.acos_coe]
  exact if_pos ⟨by unfold Loss.cosM; norm_num, by unfold Loss.cosM; norm_num⟩

end Cert.ReferenceIdeal.Read

end
-- ==== Proof.PreRead.lean ====
/-
  What the precondition says, at the extended reals.
-/
module

public import proofs.«01_k».proof.Defs
public import proofs.«01_k».proof.Proof.Gen.Pre_admissible
public import proofs.«01_k».proof.Proof.Loss

@[expose] public section

set_option maxRecDepth 16384

noncomputable section

namespace Cert.Pre_admissible.Read

open Idealize.ShloMosaic
open Cert.Pre_admissible Cert.Pre_admissible.Gen

open Cert.Loss (zero_coe coe_sum sqrt_of_nonneg div_of_ne guard2 guardD)

/-- An extended real whose absolute value is below infinity is a real. -/
theorem finite {x : EReal} (h : BitVec.ofBool (decide (max x (-x) < Ideal.ofBits .f32 0x7F800000#32)) = 1#1) :
    x = (x.toReal : EReal) := by
  have h' : max x (-x) < ⊤ := by
    by_contra hn
    rw [Loss.bits_top, decide_eq_false hn] at h
    exact absurd h (by decide)
  refine (EReal.coe_toReal ?_ ?_).symm
  · rintro rfl; exact absurd h' (by simp)
  · rintro rfl; exact absurd h' (by simp)

variable (x0 x1 : FVec Ideal S1024x1 .f32) (x2 : FVec Ideal S1024x128 .f32) (x3 : IVec S1024 32) (x4 : FVec Ideal S1x128 .f32)

/-- The classes are real numbers. -/
theorem classes_real (h : (fn (F := Ideal) x0 x1 x2 x3 x4).1 = fun _ => 1#1) (i : Fin 1024) (z : Fin 1) :
    x1 (ix2 i z) = ((x1 (ix2 i 0)).toReal : EReal) := by
  have hz : z = 0 := Subsingleton.elim _ _
  subst hz
  apply finite
  rw [← congrFun h (ix2 i 0)]
  pointwise [fn, fn_part1, fn_part2]
  rfl

/-- The rows are real numbers. -/
theorem rows_real (h : (fn (F := Ideal) x0 x1 x2 x3 x4).2.1 = fun _ => 1#1) (i : Fin 1024) (k : Fin 128) :
    x2 (ix2 i k) = ((x2 (ix2 i k)).toReal : EReal) := by
  apply finite
  rw [← congrFun h (ix2 i k)]
  pointwise [fn, fn_part1, fn_part2]
  rfl

/-- The weights are real numbers. -/
theorem weights_real (h : (fn (F := Ideal) x0 x1 x2 x3 x4).2.2.1 = fun _ => 1#1) (z : Fin 1) (k : Fin 128) :
    x4 (ix2 z k) = ((x4 (ix2 0 k)).toReal : EReal) := by
  have hz : z = 0 := Subsingleton.elim _ _
  subst hz
  apply finite
  rw [← congrFun h (ix2 0 k)]
  pointwise [fn, fn_part1, fn_part2]
  rfl

variable (e : Fin 1024 → Fin 128 → ℝ) (c : Fin 1024 → ℝ)

/-- What the last test of the precondition says of one pair of rows. -/
theorem compared_word (i j : Fin 1024) (a b : BitVec 32) (p q r : Prop) [Decidable p] [Decidable q] [Decidable r]
    (s : Prop) [Decidable s] (hij : i < j) (hc : (a = b ∧ ¬ s) ∨ (a ≠ b ∧ s))
    (h : IntOp.ori
      (~~~IntOp.andi (BitVec.ofBool (decide (i < j)))
        (IntOp.xori (IntOp.cmpi CmpIPredicate.eq a b) (BitVec.ofBool (decide s))))
      (IntOp.andi (IntOp.andi (BitVec.ofBool (decide p)) (BitVec.ofBool (decide q))) (BitVec.ofBool (decide r))) = 1#1) :
    p ∧ q ∧ r := by
  have hb : (a == b) = decide (a = b) := rfl
  have hx : IntOp.xori (IntOp.cmpi CmpIPredicate.eq a b) (BitVec.ofBool (decide s)) = 1#1 := by
    rcases hc with ⟨h1, h2⟩ | ⟨h1, h2⟩ <;> simp [IntOp.xori, IntOp.cmpi, hb, h1, h2]
  rw [hx] at h
  by_cases hp : p <;> by_cases hq : q <;> by_cases hr : r <;>
    simp [IntOp.ori, IntOp.andi, hij, hp, hq, hr] at h ⊢

/-- Two compared rows are long enough and far enough apart. -/
theorem apart (h1 : ∀ i z, x1 (ix2 i z) = (c i : EReal)) (h2 : ∀ i k, x2 (ix2 i k) = (e i k : EReal))
    (h : (fn (F := Ideal) x0 x1 x2 x3 x4).2.2.2 = fun _ => 1#1) (i j : Fin 1024) (hij : i < j)
    (hc : (x3 (ix1 i) = x3 (ix1 j) ∧ c i ≠ c j) ∨ (x3 (ix1 i) ≠ x3 (ix1 j) ∧ c i = c j)) : Loss.Apart e i j := by
  have hw := congrFun h (ix2 i j)
  have hr : ∀ v, (fn (F := Ideal) x0 x1 x2 x3 x4).2.2.2 (ix2 i j) = v → IntOp.ori
      (~~~IntOp.andi (BitVec.ofBool (decide (i < j)))
        (IntOp.xori (IntOp.cmpi CmpIPredicate.eq (x3 (ix1 i)) (x3 (ix1 j))) (BitVec.ofBool (decide (c i = c j)))))
      (IntOp.andi (IntOp.andi (BitVec.ofBool (decide (guard2 ≤ Loss.sq e i))) (BitVec.ofBool (decide (guard2 ≤ Loss.sq e j))))
        (BitVec.ofBool (decide ((guardD : EReal) ≤
          ∑ k, (Ideal.div (e i k : EReal) (Ideal.sqrt (Loss.sq e i : EReal))
              - Ideal.div (e j k : EReal) (Ideal.sqrt (Loss.sq e j : EReal)))
            * (Ideal.div (e i k : EReal) (Ideal.sqrt (Loss.sq e i : EReal))
              - Ideal.div (e j k : EReal) (Ideal.sqrt (Loss.sq e j : EReal))))))) = v := by
    intro v hv
    rw [← hv]
    pointwise [fn, fn_part1, fn_part2]
    simp only [h1, h2, Loss.before_iff, Loss.bits_guard2, Loss.bits_guardD, ← EReal.coe_mul, coe_sum, EReal.coe_le_coe_iff,
      EReal.coe_eq_coe_iff]
    rfl
  obtain ⟨hi, hj, hd⟩ := compared_word i j (x3 (ix1 i)) (x3 (ix1 j)) _ _ _ _ hij hc (hr _ hw)
  refine ⟨hi, hj, ?_⟩
  have pos : ∀ l, guard2 ≤ Loss.sq e l → √(Loss.sq e l) ≠ 0 := fun l hl =>
    (Real.sqrt_pos.mpr (lt_of_lt_of_le Loss.guard2_pos hl)).ne'
  simp only [sqrt_of_nonneg (Loss.sq_nonneg e _), div_of_ne (pos i hi), div_of_ne (pos j hj), ← EReal.coe_sub,
    ← EReal.coe_mul, coe_sum, EReal.coe_le_coe_iff] at hd
  exact hd

end Cert.Pre_admissible.Read

end
-- ==== Proof.Equation.lean ====
/-
  Each kernel's result is its reference's, as pure terms of admissible arguments.
-/
module

public import proofs.«01_k».proof.Proof.KernelRead
public import proofs.«01_k».proof.Proof.HalfRead
public import proofs.«01_k».proof.Proof.RefRead
public import proofs.«01_k».proof.Proof.PreRead

@[expose] public section

set_option maxRecDepth 16384

noncomputable section

namespace Cert.Equation

open Idealize.ShloMosaic Cert.KernelIdeal Cert.KernelIdeal.RunValue Cert.KernelIdeal.Gen

variable (x0 x1 : FVec Ideal S1024x1 .f32) (x2 : FVec Ideal S1024x128 .f32) (x3 : IVec S1024 32) (x4 : FVec Ideal S1x128 .f32)

/-- The identities that the kernel reads in one row are the identities of the argument. -/
theorem ids_row : Cert.KernelIdeal.Read.ids (shapeCast S1x1024 x3 shapeCasts_S1024_S1x1024) = fun i => x3 (ix1 i) := by
  funext i
  show shapeCast S1x1024 x3 shapeCasts_S1024_S1x1024 (ix2 0 i) = _
  pointwise

/-- The one entry of the re-shaped block. -/
theorem entry (b : FVec Ideal S1x1 .f32) : shapeCast S_ b shapeCasts_S1x1_S_ ix0 = b (ix2 0 0) := by
  pointwise

/-- A kernel's block and a reference's loss are one result where they have one cross entropy: every compared pair
    of rows is long enough and far enough apart that the kernel's guards leave it alone, so the pair sums agree. -/
theorem same (b : FVec Ideal S1x1 .f32) (l : FVec Ideal S_ .f32) (e : Fin 1024 → Fin 128 → ℝ) (c : Fin 1024 → ℝ)
    (id : Fin 1024 → BitVec 32) (r : ℝ)
    (ha : ∀ i j, i < j → (id i = id j ∧ c i ≠ c j) ∨ (id i ≠ id j ∧ c i = c j) → Loss.Apart e i j)
    (hb : b (ix2 0 0) = ((r + Loss.weight * Loss.pairsK e c id : ℝ) : EReal))
    (hl : l ix0 = ((r + Loss.weight * Loss.pairsR e c id : ℝ) : EReal)) : shapeCast S_ b shapeCasts_S1x1_S_ = l := by
  funext o
  have ho : o = ix0 := funext fun a => a.elim0
  rw [ho, entry, hb, hl, Loss.pairs_eq _ _ _ ha]

section Admissible

variable (g1 : (Cert.Pre_admissible.fn (F := Ideal) x0 x1 x2 x3 x4).1 = fun _ => 1#1)
    (g2 : (Cert.Pre_admissible.fn (F := Ideal) x0 x1 x2 x3 x4).2.1 = fun _ => 1#1)
    (g3 : (Cert.Pre_admissible.fn (F := Ideal) x0 x1 x2 x3 x4).2.2.1 = fun _ => 1#1)
    (g4 : (Cert.Pre_admissible.fn (F := Ideal) x0 x1 x2 x3 x4).2.2.2 = fun _ => 1#1)
include g1 g2 g3 g4

/-- On admissible arguments the kernel's block holds the loss at the margin that is the arc cosine of its cosine: both are
    the cross entropy of the scaled logits plus the weighted quotients over the compared pairs. -/
theorem equation : shapeCast S_ (body x1 (shapeCast S1x1024 x3 shapeCasts_S1024_S1x1024) x2 x4) shapeCasts_S1x1_S_
      = Cert.ReferenceIdeal.Stages.lossV (F := Ideal) x1 x2 x3 x4 (Host.acos (constant S_ .f32 0x3F60A940#32)) := by
  have h1 := Cert.Pre_admissible.Read.classes_real x0 x1 x2 x3 x4 g1
  have h2 := Cert.Pre_admissible.Read.rows_real x0 x1 x2 x3 x4 g2
  have h4 := Cert.Pre_admissible.Read.weights_real x0 x1 x2 x3 x4 g3
  refine same _ _ _ _ _ _ (Cert.Pre_admissible.Read.apart x0 x1 x2 x3 x4 _ _ h1 h2 g4)
    ((Cert.KernelIdeal.Read.body_read _ _ _ _ _ _ _ h1 h2 h4 0 0).trans (by rw [ids_row])) ?_
  rw [Cert.ReferenceIdeal.Read.loss_read x1 x2 x3 x4 _ _ _ _ _ h1 h2 h4 Cert.ReferenceIdeal.Read.arc_margin, Loss.cos_arc,
    Loss.sin_arc]

/-- On admissible arguments the block of the kernel that takes the cosine and the sine of 0.5 holds the loss at the margin
    0.5. -/
theorem equation_half :
    shapeCast S_ (Cert.KernelHalfIdeal.RunValue.body x1 (shapeCast S1x1024 x3 shapeCasts_S1024_S1x1024) x2 x4)
        shapeCasts_S1x1_S_
      = Cert.ReferenceIdeal.Stages.lossV (F := Ideal) x1 x2 x3 x4 (constant S_ .f32 0x3F000000#32) := by
  have h1 := Cert.Pre_admissible.Read.classes_real x0 x1 x2 x3 x4 g1
  have h2 := Cert.Pre_admissible.Read.rows_real x0 x1 x2 x3 x4 g2
  have h4 := Cert.Pre_admissible.Read.weights_real x0 x1 x2 x3 x4 g3
  exact same _ _ _ _ _ _ (Cert.Pre_admissible.Read.apart x0 x1 x2 x3 x4 _ _ h1 h2 g4)
    ((Cert.KernelHalfIdeal.Read.body_read _ _ _ _ _ _ _ h1 h2 h4 0 0).trans (by rw [ids_row]))
    (Cert.ReferenceIdeal.Read.loss_read x1 x2 x3 x4 _ _ _ _ _ h1 h2 h4 Cert.ReferenceIdeal.Read.half_margin)

end Admissible

end Cert.Equation

end
-- ==== Proof.lean ====
/-
  The certificate: the runs of the programs, and the equations of the two kernels' results with their references'.
-/
module

public import proofs.«01_k».proof.Defs
public import proofs.«01_k».proof.Proof.Gen.Kernel.Frame
public import proofs.«01_k».proof.Proof.Gen.KernelIdeal.Frame
public import proofs.«01_k».proof.Proof.Gen.KernelHalf.Frame
public import proofs.«01_k».proof.Proof.Gen.KernelHalfIdeal.Frame
public import proofs.«01_k».proof.Proof.Gen.Pre_admissible
public import proofs.«01_k».proof.Proof.Gen.ReferenceArcIdeal.Run
public import proofs.«01_k».proof.Proof.Gen.ReferenceIdeal.Run
public import proofs.«01_k».proof.Proof.KernelRun
public import proofs.«01_k».proof.Proof.HalfRun
public import proofs.«01_k».proof.Proof.RefStages
public import proofs.«01_k».proof.Proof.ArcStages
public import proofs.«01_k».proof.Proof.Equation
public import Idealize.ShloMosaic.Adequacy
public import Idealize.ShloMosaic.Init

@[expose] public section

noncomputable section

namespace Cert.Proof

open Idealize.ShloMosaic Idealize.SL.Sem

/-- The references end with their arguments as they were, and they have no semaphores. -/
theorem arc_quiescent : Cert.quiescent_ReferenceArcIdeal := fun m g _ =>
  (θ_run Cert.ReferenceArcIdeal.defs _ _).mono (fun r h => ⟨fun c => (h c).2, sem_eq_zero_of_no_sems (by decide) r.2⟩)
    (Cert.ReferenceArcIdeal.Value.run (F := Ideal) m g)

theorem reference_quiescent : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The sine that the kernel holds is named a real that rounds to it. -/
theorem sine_named : Cert.preserves_Kernel_KernelIdeal :=
  IdealRules.named_const.statement Cert.KernelIdeal.κ "sinm" .f32 0x3EF57744#32
    ((Real.sqrt (15795093927 / 68719476736) : ℝ) : EReal) rfl

/-- The kernel and the loss at the margin of its cosine end with the same result on the same admissible arguments. -/
theorem same_result : Cert.algebraic_KernelIdeal_ReferenceArcIdeal_pre_admissible := by
  pair_intro
  · run_from (Cert.KernelIdeal.RunValue.run (F := Ideal) m g)
  · refine (θ_run Cert.ReferenceArcIdeal.defs _ _).mono (fun r h c => ⟨(h c).1.trans ?_, (h c).2⟩)
      (Cert.ReferenceArcIdeal.Value.run (F := Ideal) m' g')
    obtain ⟨g1, g2, g3, g4⟩ := hpre c
    obtain ⟨a0, a1, a2, a3, a4⟩ := hagree c
    refine (Cert.ReferenceArcIdeal.Stages.result_eq m' c).trans ?_
    rw [a1, a2, a3, a4]
    exact (Cert.Equation.equation _ _ _ _ _ g1 g2 g3 g4).symm

/-- The kernel that takes the cosine and the sine of 0.5 and the loss at the margin 0.5 do, too. -/
theorem same_result_half : Cert.algebraic_KernelHalfIdeal_ReferenceIdeal_pre_admissible := by
  pair_intro
  · run_from (Cert.KernelHalfIdeal.RunValue.run (F := Ideal) m g)
  · refine (θ_run Cert.ReferenceIdeal.defs _ _).mono (fun r h c => ⟨(h c).1.trans ?_, (h c).2⟩)
      (Cert.ReferenceIdeal.Value.run (F := Ideal) m' g')
    obtain ⟨g1, g2, g3, g4⟩ := hpre c
    obtain ⟨a0, a1, a2, a3, a4⟩ := hagree c
    refine (Cert.ReferenceIdeal.Stages.result_eq m' c).trans ?_
    rw [a1, a2, a3, a4]
    exact (Cert.Equation.equation_half _ _ _ _ _ g1 g2 g3 g4).symm

theorem claim : Cert.Claim :=
  ⟨Cert.Kernel.Gen.facts, Cert.KernelIdeal.Gen.facts, Cert.ReferenceArcIdeal.Gen.facts, Cert.KernelHalf.Gen.facts,
    Cert.KernelHalfIdeal.Gen.facts, Cert.ReferenceIdeal.Gen.facts, Cert.Pre_admissible.Gen.facts,
    fun m g _ => Cert.Kernel.Gen.frame m g, fun m g _ => Cert.KernelIdeal.Gen.frame m g,
    fun m g _ => Cert.KernelIdeal.Gen.frame m g, arc_quiescent, fun m g _ => arc_quiescent m g trivial,
    fun m g _ => Cert.KernelHalf.Gen.frame m g, fun m g _ => Cert.KernelHalfIdeal.Gen.frame m g,
    fun m g _ => Cert.KernelHalfIdeal.Gen.frame m g, reference_quiescent, fun m g _ => reference_quiescent m g trivial,
    sine_named, same_result, trivial, same_result_half⟩

end Cert.Proof

end
